-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S4096x200 : Shape := ⟨2, ![4096, 200]⟩
abbrev S1000000x16 : Shape := ⟨2, ![1000000, 16]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x16 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x16 : Shape := ⟨2, ![1000000, 16]⟩
abbrev S8x16x128 : Shape := ⟨3, ![8, 16, 128]⟩
abbrev S16x1000000 : Shape := ⟨2, ![16, 1000000]⟩
abbrev S125000x128 : Shape := ⟨2, ![125000, 128]⟩
abbrev S16x8192 : Shape := ⟨2, ![16, 8192]⟩
abbrev S1024x128 : Shape := ⟨2, ![1024, 128]⟩
abbrev S8192x16 : Shape := ⟨2, ![8192, 16]⟩
abbrev S1024x8x16 : Shape := ⟨3, ![1024, 8, 16]⟩
abbrev S1024x1x16 : Shape := ⟨3, ![1024, 1, 16]⟩
abbrev S1024x16 : Shape := ⟨2, ![1024, 16]⟩
abbrev S819200 : Shape := ⟨1, ![819200]⟩
abbrev S800x1024x16 : Shape := ⟨3, ![800, 1024, 16]⟩
abbrev S1024 : Shape := ⟨1, ![1024]⟩
abbrev S_ : Shape := ⟨0, ![]⟩
abbrev S1x1024x16 : Shape := ⟨3, ![1, 1024, 16]⟩
abbrev S102400x128 : Shape := ⟨2, ![102400, 128]⟩
abbrev S2x51200x128 : Shape := ⟨3, ![2, 51200, 128]⟩
abbrev S256x128 : Shape := ⟨2, ![256, 128]⟩
abbrev S2x128x128 : Shape := ⟨3, ![2, 128, 128]⟩
abbrev S16x128 : Shape := ⟨2, ![16, 128]⟩
abbrev S128x16 : Shape := ⟨2, ![128, 16]⟩
abbrev S8x16x16 : Shape := ⟨3, ![8, 16, 16]⟩
abbrev S1x16x16 : Shape := ⟨3, ![1, 16, 16]⟩
abbrev S16x16 : Shape := ⟨2, ![16, 16]⟩
abbrev S1x16x128 : Shape := ⟨3, ![1, 16, 128]⟩
abbrev S2x8x128 : Shape := ⟨3, ![2, 8, 128]⟩
abbrev S2x6400x8x128 : Shape := ⟨4, ![2, 6400, 8, 128]⟩
abbrev S2x8x6400x128 : Shape := ⟨4, ![2, 8, 6400, 128]⟩
abbrev S16x819200 : Shape := ⟨2, ![16, 819200]⟩
abbrev S819200x16 : Shape := ⟨2, ![819200, 16]⟩
abbrev S4096x200x16 : Shape := ⟨3, ![4096, 200, 16]⟩

abbrev nBuf : Table → Nat
  | .hbm => 16
  | .local .tc .vmem => 10
  | .local .scVector .vmem => 2
  | _ => 0

abbrev bufTy : (tb : Table) → Fin (nBuf tb) → BufTy
  | .hbm, ⟨0, _⟩ => ⟨S4096x200, .i32⟩
  | .hbm, ⟨1, _⟩ => ⟨S1000000x16, .f32⟩
  | .hbm, ⟨2, _⟩ => ⟨S8x16x128, .f32⟩
  | .hbm, ⟨3, _⟩ => ⟨S8x16x128, .f32⟩
  | .hbm, ⟨4, _⟩ => ⟨S16x1000000, .f32⟩
  | .hbm, ⟨5, _⟩ => ⟨S125000x128, .f32⟩
  | .hbm, ⟨6, _⟩ => ⟨S1000000x16, .f32⟩
  | .hbm, ⟨7, _⟩ => ⟨S819200, .i32⟩
  | .hbm, ⟨8, _⟩ => ⟨S800x1024x16, .f32⟩
  | .hbm, ⟨9, _⟩ => ⟨S102400x128, .f32⟩
  | .hbm, ⟨10, _⟩ => ⟨S2x51200x128, .f32⟩
  | .hbm, ⟨11, _⟩ => ⟨S2x6400x8x128, .f32⟩
  | .hbm, ⟨12, _⟩ => ⟨S2x8x6400x128, .f32⟩
  | .hbm, ⟨13, _⟩ => ⟨S16x819200, .f32⟩
  | .hbm, ⟨14, _⟩ => ⟨S819200x16, .f32⟩
  | .hbm, ⟨15, _⟩ => ⟨S4096x200x16, .f32⟩
  | .local .tc .vmem, ⟨0, _⟩ => ⟨S16x8192, .f32⟩
  | .local .tc .vmem, ⟨1, _⟩ => ⟨S16x8192, .f32⟩
  | .local .tc .vmem, ⟨2, _⟩ => ⟨S8x16x128, .f32⟩
  | .local .tc .vmem, ⟨3, _⟩ => ⟨S1024x128, .f32⟩
  | .local .tc .vmem, ⟨4, _⟩ => ⟨S1024x128, .f32⟩
  | .local .tc .vmem, ⟨5, _⟩ => ⟨S256x128, .f32⟩
  | .local .tc .vmem, ⟨6, _⟩ => ⟨S256x128, .f32⟩
  | .local .tc .vmem, ⟨7, _⟩ => ⟨S8x16x128, .f32⟩
  | .local .tc .vmem, ⟨8, _⟩ => ⟨S2x128x128, .f32⟩
  | .local .tc .vmem, ⟨9, _⟩ => ⟨S2x128x128, .f32⟩
  | .local .scVector .vmem, ⟨0, _⟩ => ⟨S1024, .i32⟩
  | .local .scVector .vmem, ⟨1, _⟩ => ⟨S1024x16, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32_0 : BitVec 32 := 0#32
  let c25_i32_1 : BitVec 32 := 25#32
  let v3 : BitVec 32 := Scalar.addi c0_i32_0 c25_i32_1
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_0 : BitVec 32 := 0#32
  let c1_i32 : BitVec 32 := 1#32
  let arg8 : BitVec 32 := Scf.iv c0_i32_0 c1_i32 k1_t1
  let v4 : BitVec 32 := Scalar.addi v2 arg8
  let c1024_i32 : BitVec 32 := 1024#32
  let v5 : BitVec 32 := Scalar.muli v4 c1024_i32
  ![v5.toNat]
def k1_off2 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_0 : BitVec 32 := 0#32
  let c1_i32 : BitVec 32 := 1#32
  let arg8 : BitVec 32 := Scf.iv c0_i32_0 c1_i32 k1_t1
  let v4 : BitVec 32 := Scalar.addi v2 arg8
  let c0_i32_7_r1 : BitVec 32 := 0#32
  let c0_i32_8_r1 : BitVec 32 := 0#32
  ![v4.toNat, 0, 0]
abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x16 : Shape := ⟨2, ![1000000, 16]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x16 : Shape := ⟨3, ![4096, 200, 16]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x16, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x16, .f32⟩
  | .hbm, ⟨21, _⟩ => ⟨S4096x200x16, .i1⟩
  | .hbm, ⟨22, _⟩ => ⟨S_, .f32⟩
  | .hbm, ⟨23, _⟩ => ⟨S4096x200x16, .f32⟩
  | .hbm, ⟨24, _⟩ => ⟨S4096x200x16, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The set-up shared by the kernel's proof modules: the program as the launch theorem sees it, the resource algebra (the
  SparseCore handshakes' rounds, the two TensorCore pipelines' rounds, the transfers' counters), names for the arrays, and
  the division of a share into halves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

local notation "𝕄" => MT nD τ sig (HIx 1) (Elt F) ℕ UU ℕ

/-- Where the handshakes' rounds sit, -/
abbrev EH : Emb UH (MT nD τ sig (HIx 1) (Elt F) ℕ UU ℕ) := embL
/-- and the pipelines'. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The arrays -/

/-- The TensorCore's array `b` on device `d`. -/
abbrev tcLoc (d : Dev nD) (b : Ref sig .tc) : Loc nD τ sig := (SparseCore.T d).loc b

abbrev tabLoc (d : Dev nD) : Loc nD τ sig := tcLoc d main_v2
abbrev lstLoc (d : Dev nD) : Loc nD τ sig := tcLoc d main_v3
abbrev outLoc (d : Dev nD) : Loc nD τ sig := tcLoc d main_v4

/-- The gathered rows: row `i₁` of chunk `i₀` is the table's row at the list's entry `1024 i₀ + i₁`. -/
def gath {α : Type} (tab : S1000000x16.Idx → α) (lst : S819200.Idx → BitVec 32) : S800x1024x16.Idx → α := fun i =>
  tab (ix2 ⟨(lst (ix1 ⟨1024 * (i 0).val + (i 1).val, by
    have h0 : (i 0).val < 800 := (i 0).isLt
    have h1 : (i 1).val < 1024 := (i 1).isLt
    omega⟩)).toNat % 1000000, Nat.mod_lt _ (by decide)⟩ (i 2))

/-! ## A share's halves -/

/-- Piece `i` of the share `q` halved `n` times. -/
def piece : (n : ℕ) → PosShare TreeShare → Fin (2 ^ n) → PosShare TreeShare
  | 0, q, _ => q
  | n + 1, q, i => if i.val % 2 = 0 then piece n q.left ⟨i.val / 2, by have := i.isLt; omega⟩ else piece n q.right ⟨i.val / 2, by have := i.isLt; omega⟩

/-- A number below `2 ^ (n + 1)` is its last binary digit and the rest. -/
def digit (n : ℕ) : Fin (2 ^ n) ⊕ Fin (2 ^ n) ≃ Fin (2 ^ (n + 1)) where
  toFun := Sum.elim (fun i => ⟨2 * i.val, by have := i.isLt; omega⟩) (fun i => ⟨2 * i.val + 1, by have := i.isLt; omega⟩)
  invFun i := if i.val % 2 = 0 then .inl ⟨i.val / 2, by have := i.isLt; omega⟩ else .inr ⟨i.val / 2, by have := i.isLt; omega⟩
  left_inv i := by
    rcases i with i | i
    · simp only [Sum.elim_inl, Nat.mul_mod_right, ↓reduceIte, Nat.mul_div_cancel_left _ (Nat.succ_pos 1)]
    · have h1 : (2 * i.val + 1) % 2 = 1 := by omega
      have h2 : (2 * i.val + 1) / 2 = i.val := by omega
      simp only [Sum.elim_inr, h1, h2, Nat.one_ne_zero, ↓reduceIte]
  right_inv i := by
    by_cases h : i.val % 2 = 0
    · simp only [h, ↓reduceIte, Sum.elim_inl]; apply Fin.ext; show 2 * (i.val / 2) = i.val; omega
    · simp only [h, ↓reduceIte, Sum.elim_inr]; apply Fin.ext; show 2 * (i.val / 2) + 1 = i.val; omega

/-- A points-to at a share is its pieces' together. -/
theorem pointsTo_pieces {ℓ : Loc nD τ sig} (f : Buf (Elt F) ℓ) :
    ∀ (n : ℕ) (q : PosShare TreeShare), (ℓ ↦{q} f : sProp 𝕄) = bigSep Finset.univ fun i : Fin (2 ^ n) => ℓ ↦{piece n q i} f
  | 0, q => (bigSep_univ_of_subsingleton (0 : Fin 1) (Φ := fun i : Fin (2 ^ 0) => (ℓ ↦{piece 0 q i} f : sProp 𝕄))).symm
  | n + 1, q => by
    rw [bigSep_univ_equiv (digit n), bigSep_univ_sum]
    rw [BI.Entails.antisymm (pointsTo_share (PosShare.mem_left_op_right q)).1 (pointsTo_share (PosShare.mem_left_op_right q)).2,
      pointsTo_pieces f n q.left, pointsTo_pieces f n q.right]
    congr 1 <;> refine bigSep_congr fun i _ => ?_
    · have h1 : (digit n (.inl i)).val = 2 * i.val := rfl
      simp only [piece, h1, Nat.mul_mod_right, ↓reduceIte, Nat.mul_div_cancel_left _ (Nat.succ_pos 1)]
    · have h1 : (digit n (.inr i)).val = 2 * i.val + 1 := rfl
      have h2 : (2 * i.val + 1) % 2 = 1 := by omega
      have h3 : (2 * i.val + 1) / 2 = i.val := by omega
      simp only [piece, h1, h2, h3, Nat.one_ne_zero, ↓reduceIte]

end Cert.Proof.K

end
-- ==== Proof.Region.lean ====
/-
  A TensorCore pipeline run from `@main` of a program with SparseCore calls: the pipeline's region takes the arrays from
  their entry contents to their exit contents and hands the TensorCore's handshake state back as it found it.
-/
module

public import proofs.«01_k».proof.Proof.Setup
public import Idealize.ShloMosaic.Lib.Pipeline.RegionArrays

@[expose] public section

set_option maxRecDepth 16384

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Neither pipeline prefetches a table. -/
abbrev adm : (p : Fin 2) → (pcfgs (F := F) p).Adm := fun p => (cfgs p).toPCfg_adm

/-- The proof data of the two pipelines. -/
abbrev Dats (F : FTy → Type) := (p : Fin 2) → (c : Dev nD) → Pipeline.Dat τ (Elt F) (HIx 1) ℕ UU ℕ (cfgs p) c

/-- The stages the one call's levels take. -/
abbrev Z : SparseCore.Cfg.Blocks 1 1 := inferInstance

/-- The waits the TensorCore may have recorded before call `n`. -/
def below (d : Dev nD) (n : ℕ) : Set (SemLoc sig × HIx 1) := {p | (K (F := F)).lev (T d, p.1) p.2 ≤ 8 * Z.fst n}

/-- The TensorCore's handshake state before call `n` less what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (Z.last q)) 1)))

theorem tcSt_eq (d : Dev nD) (n : ℕ) : ((K (F := F)).tcSt EH d n : sProp 𝕄)
    = iprop((∃ W, ⌜(K (F := F)).WBelow (T d) W (8 * Z.fst n)⌝ ∗ owes (T d) ((K (F := F)).Otc d n) W) ∗ tcRest d n) := rfl

/-- What the data of pipeline `p` must be for it to run before call `n`. -/
structure Runs (dats : Dats F) (p : Fin 2) (n : ℕ) : Prop where
  body : ∀ c, Pipeline.BodyObligationLoose (dats p c) defs₀ 𝒱₀ (none : HIx 1) Set.univ
  owed : ∀ c t, (dats p c).owed t = (K (F := F)).Otc c n
  recorded : ∀ c t, (dats p c).recorded t = below (F := F) c n
  inv : ∀ c t, (dats p c).Φ t = Pipeline.scopedRest (cfgs p).spec c

/-- Pipeline `p`'s region, entered before call `n`. -/
def seg (dats : Dats F) (p : Fin 2) (n : ℕ) (kit : Pipeline.LaunchFacts (nD := nD) (τ := τ) cfgs p) (h : Runs dats p n) :
    Pipeline.RegionSeg (Name := ℕ) (U := UU) (pcfgs (F := F)) adm dats (none : HIx 1) defs₀ 𝒱₀ (K (F := F)).L (K (F := F)).lev p where
  win := kit.win.to₀
  block_pos := kit.block_pos
  stage_whole := kit.stage_whole
  K := PEmpty
  osem k := k.elim
  ho := Pipeline.OwnSemFacts.none _
  hbody := h.body
  hwaits c := Pipeline.cellsWaits_of_cut (Pipeline.pin (pcfgs (F := F)) adm) dats none p c 0 ((K (F := F)).Otc c n) (h.owed c)
    (fun _ _ => Finset.mem_univ _) (fun _ _ => le_rfl)
    (fun g i hg => ⟨Finset.mem_univ _, lt_of_lt_of_le (Nat.succ_pos _) (SparseCore.Cfg.lev_of_Otc_pos hg)⟩)
  pre c := iprop((dats p c).arrays ((dats p c).arrAt · 0) ∗ (K (F := F)).tcSt EH c n)
  post c := iprop((dats p c).arrays ((dats p c).arrAt · (cfgs p).N) ∗ (K (F := F)).tcSt EH c n)
  X _ := iprop(emp)
  Y _ := iprop(emp)
  Z c := tcRest c n
  hentry c := by
    rw [Pipeline.ownSems0_none, Pipeline.prefHeld_of_none _ rfl, tcSt_eq]
    iintro ⟨⟨Ha, ⟨%W, %hW, HO⟩, HZ⟩, -, -⟩
    imodintro
    isplitl [Ha]; · iexact Ha
    isplitr; · iempintro
    isplitl [HO]
    · unfold Pipeline.Dat.owesAt Pipeline.owesWithin Pipeline.Dat.bound
      rw [h.owed c 0, h.recorded c 0]
      iexists W; isplitr; · ipureintro; exact fun p hp => Or.inl (hW p hp)
      iexact HO
    isplitr; · iempintro
    iexact HZ
  hin c := by
    rw [h.inv c 0]
    iintro ⟨-, -, Hr⟩
    iexact Hr
  hout c := by
    rw [h.inv c, Pipeline.ownSems0_none]
    iintro Hr
    isplitr; · iempintro
    isplitr; · iempintro
    iexact Hr
  hexit c := by
    rw [tcSt_eq]
    iintro ⟨Ha, HO, -, HZ⟩
    imodintro
    isplitl [Ha]; · iexact Ha
    isplitl [HO]
    · unfold Pipeline.Dat.owesAt Pipeline.owesWithin Pipeline.Dat.bound
      rw [h.owed c (Fin.last _), h.recorded c (Fin.last _)]
      icases HO with ⟨%W, %hW, HO⟩
      iexists W
      isplitr
      · ipureintro
        intro p hp
        rcases hW hp with hb | ⟨w, s, e⟩
        · exact hb
        · rw [e]; exact Nat.zero_le _
      iexact HO
    iexact HZ

/-- Pipeline `p`'s call. -/
abbrev call (p : Fin 2) : Prog (TpuEff nD τ sig (Elt F) (ΛP (F := F)) .tc) PUnit := .op (.customCall (Pipeline.entry p) ()) fun _ => .ret ⟨⟩

theorem lift_call (p : Fin 2) : (SparseCore.liftProg (call (F := F) p) : Prog (TpuEff nD τ sig (Elt F) (SparseCore.Sig (ΛP (F := F)) 1) .tc) PUnit)
    = Prog.lift (.customCall (SparseCore.inner (Pipeline.entry p)) ()) := rfl

/-- Pipeline `p`'s call in `@main`, before SparseCore call `n`. -/
theorem region_wp [∀ e, Nonempty (Elt F e)] (dats : Dats F) (p : Fin 2) (n : ℕ) (kit : Pipeline.LaunchFacts (nD := nD) (τ := τ) cfgs p) (h : Runs dats p n)
    (d : Dev nD) :
    iprop(boundary (T d) ∗ (dats p d).arrays ((dats p d).arrAt · 0) ∗ (K (F := F)).tcSt EH d n ∗ levAts (K (F := F)).L (K (F := F)).lev
        ∗ Pipeline.cellsGhost cfgs (EP (F := F)) p d ∗ Pipeline.toksInit cfgs (EP (F := F)) p d)
      ⊢ wp frame (wpE ((K (F := F)).defs D) 𝒱 (T d) none) Set.univ (Prog.lift (.customCall (SparseCore.inner (Pipeline.entry p)) ()))
        fun _ => iprop(boundary (T d) ∗ (dats p d).arrays ((dats p d).arrAt · (cfgs p).N) ∗ (K (F := F)).tcSt EH d n) := by
  have lift := (K (F := F)).wp_liftProg (Name := ℕ) (U := UU) (D (F := F)) 𝒱 (T d) Set.univ none (call (F := F) p)
    (fun _ => iprop(boundary (T d) ∗ (dats p d).arrays ((dats p d).arrAt · (cfgs p).N) ∗ (K (F := F)).tcSt EH d n))
  rw [← lift_call]
  refine BI.Entails.trans ?_ lift
  have step := Pipeline.RegionSeg.wp (pcfgs (F := F)) adm dats none cellOf_inj EP defs₀ 𝒱₀ (K (F := F)).L (K (F := F)).lev
    (seg dats p n kit h) d none (fun u hu => by cases hu) (fun _ => .ret PUnit.unit)
    (fun _ => iprop(boundary (T d) ∗ (dats p d).arrays ((dats p d).arrAt · (cfgs p).N) ∗ (K (F := F)).tcSt EH d n))
  refine BI.Entails.trans ?_ step
  change (iprop(boundary (T d) ∗ (dats p d).arrays ((dats p d).arrAt · 0) ∗ (K (F := F)).tcSt EH d n ∗ levAts (K (F := F)).L (K (F := F)).lev
        ∗ Pipeline.cellsGhost cfgs (EP (F := F)) p d ∗ Pipeline.toksInit cfgs (EP (F := F)) p d) : sProp 𝕄)
    ⊢ (iprop((iprop(boundary (T d) ∗ (dats p d).arrays ((dats p d).arrAt · (cfgs p).N) ∗ (K (F := F)).tcSt EH d n) -∗
          wp frame (wpE D 𝒱 (T d) none) Set.univ (.ret PUnit.unit)
            fun _ => iprop(boundary (T d) ∗ (dats p d).arrays ((dats p d).arrAt · (cfgs p).N) ∗ (K (F := F)).tcSt EH d n))
        ∗ boundary (T d) ∗ (iprop((dats p d).arrays ((dats p d).arrAt · 0) ∗ (K (F := F)).tcSt EH d n)) ∗ levAts (K (F := F)).L (K (F := F)).lev
        ∗ Pipeline.cellsGhost cfgs (EP (F := F)) p d ∗ Pipeline.toksInit cfgs (EP (F := F)) p d) : sProp 𝕄)
  iintro ⟨Hb, Ha, Ht, Hl, Hg, Hk⟩
  isplitr
  · iintro ⟨Hb, Ha, Ht⟩
    simp only [wp_ret]
    imodintro
    isplitl [Hb]; · iexact Hb
    isplitl [Ha]; · iexact Ha
    iexact Ht
  isplitl [Hb]; · iexact Hb
  isplitl [Ha Ht]
  · isplitl [Ha]; · iexact Ha
    iexact Ht
  isplitl [Hl]; · iexact Hl
  isplitl [Hg]; · iexact Hg
  iexact Hk

end Cert.Proof.K

end
-- ==== Proof.Table.lean ====
/-
  The first TensorCore kernel: from the table transposed (16 × 1000000) it writes the table with eight rows to a line
  (125000 × 128), block after block; the last block is cut at the arrays' ends.
-/
module

public import proofs.«01_k».proof.Proof.Region
public import Idealize.ShloMosaic.Lib.VecWindow
public import Idealize.ShloMosaic.Lib.Pipeline.ValueKit.Geometry

@[expose] public section

set_option maxRecDepth 16384

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Window BodyObligationLoose)

variable {F : FTy → Type} [FloatOps F]

local notation "𝕄" => MT nD τ sig (HIx 1) (Elt F) ℕ UU ℕ

/-! ## The block's value -/

/-- The table with eight rows to a line, from its transpose. -/
def lines (x : S16x1000000.Idx → Elt F .f32) : S125000x128.Idx → Elt F .f32 := fun i =>
  x (ix2 ⟨(i 1).val % 16, Nat.mod_lt _ (by decide)⟩ ⟨8 * (i 0).val + (i 1).val / 16, by
    have h0 : (i 0).val < 125000 := (i 0).isLt
    have h1 : (i 1).val < 128 := (i 1).isLt
    omega⟩)

/-- What the body stores, at row `r` and lane `l`. -/
theorem pay_table (v : Vec F S16x8192 .f32) (r : Fin 1024) (l : Fin 128) :
    k0_pay1 v (ix2 r l) = v (ix2 ⟨l.val % 16, Nat.mod_lt _ (by decide)⟩ ⟨8 * r.val + l.val / 16, by omega⟩) := by
  have e : ∀ (a : Fin 16) (b : Fin 8192), a.val = l.val % 16 → b.val = 8 * r.val + l.val / 16 →
      v (ix2 a b) = v (ix2 ⟨l.val % 16, Nat.mod_lt _ (by decide)⟩ ⟨8 * r.val + l.val / 16, by omega⟩) := by
    intro a b ha hb
    congr 2
    · exact Fin.ext ha
    · exact Fin.ext hb
  pointwise [k0_pay1]
  split_ifs <;> exact e _ _ (by dsimp only; omega) (by dsimp only; omega)

/-- Both windows' blocks at a point, and how much of each lies inside its array. -/
theorem index_in (t : Fin grid0.N) : win0_0.index t = ![0, t.val] :=
  (by decide +kernel : ∀ t : Fin grid0.N, win0_0.index t = ![0, t.val]) t
theorem index_out (t : Fin grid0.N) : win0_2.index t = ![t.val, 0] :=
  (by decide +kernel : ∀ t : Fin grid0.N, win0_2.index t = ![t.val, 0]) t
theorem extents (t : Fin grid0.N) : win0_0.xsize (grid0.coords t) 0 = 16
    ∧ win0_0.xsize (grid0.coords t) 1 = 8 * win0_2.xsize (grid0.coords t) 0 ∧ win0_2.xsize (grid0.coords t) 1 = 128 :=
  (by decide +kernel : ∀ t : Fin grid0.N, win0_0.xsize (grid0.coords t) 0 = 16
    ∧ win0_0.xsize (grid0.coords t) 1 = 8 * win0_2.xsize (grid0.coords t) 0 ∧ win0_2.xsize (grid0.coords t) 1 = 128) t

/-- The block the fetch at point `t` reads. -/
def inBlk (x : S16x1000000.Idx → Elt F .f32) (t : Fin grid0.N) : (win0_0.xblock (grid0.coords t)).Idx → Elt F .f32 :=
  (win0_0.blk t).view.read (Elt F) x
/-- The block the write-back at point `t` must write. -/
def outBlk (x : S16x1000000.Idx → Elt F .f32) (t : Fin grid0.N) : (win0_2.xblock (grid0.coords t)).Idx → Elt F .f32 :=
  (win0_2.blk t).view.read (Elt F) (lines x)

/-- On the rows inside the result the body's store is the block to be written, whatever the fetch left past the
    operand's end. -/
theorem table_block (x : S16x1000000.Idx → Elt F .f32) (t : Fin grid0.N) (d : S16x8192.Idx → Elt F .f32) :
    win0_2.cut (grid0.coords t) (k0_pay1 (win0_0.fill (grid0.coords t) d (inBlk x t))) = outBlk x t := by
  obtain ⟨hx0, hx1, hx2⟩ := extents t
  funext y
  have hy0 : (y 0).val < win0_2.xsize (grid0.coords t) 0 := (y 0).isLt
  have hy1 : (y 1).val < 128 := lt_of_lt_of_eq (y 1).isLt hx2
  have hb : (y 0).val < 1024 := lt_of_lt_of_le (y 0).isLt (win0_2.xsize_le _ 0)
  have hp : win0_2.xinj (grid0.coords t) y = (ix2 (n0 := 1024) (n1 := 128) ⟨(y 0).val, hb⟩ ⟨(y 1).val, hy1⟩ : S1024x128.Idx) := by
    funext a; fin_cases a <;> rfl
  have hm : win0_0.moved (grid0.coords t) (ix2 (n0 := 16) (n1 := 8192) ⟨(y 1).val % 16, Nat.mod_lt _ (by decide)⟩ ⟨8 * (y 0).val + (y 1).val / 16, by omega⟩ : S16x8192.Idx) = true :=
    (win0_0.moved_iff _ _).mpr fun a => by
      fin_cases a
      · show (y 1).val % 16 < win0_0.xsize (grid0.coords t) 0
        rw [hx0]; exact Nat.mod_lt _ (by decide)
      · show 8 * (y 0).val + (y 1).val / 16 < win0_0.xsize (grid0.coords t) 1
        rw [hx1]; omega
  refine (congrArg (k0_pay1 (win0_0.fill (grid0.coords t) d (inBlk x t))) hp).trans ?_
  refine (pay_table _ _ _).trans ?_
  unfold Window.fill
  refine (dif_pos hm).trans ?_
  unfold inBlk outBlk lines
  rw [View.read_apply, View.read_apply]
  simp only [cast_eq]
  refine congrArg x ?_
  blk_ext [index_in t, index_out t]

/-! ## The body -/

/-- The body on any three whole buffers: the first and the second stay, the third ends holding the first's columns as
    lines. -/
theorem table_body (c : Dev nD) (i : grid0.Coords) (m0 : Memref sig .tc .vmem S16x8192 .f32) (h0 : m0.IsWhole)
    (m1 : Memref sig .tc .vmem S8x16x128 .f32) (h1 : m1.IsWhole) (m2 : Memref sig .tc .vmem S1024x128 .f32) (h2 : m2.IsWhole)
    (X0 : S16x8192.Idx → Elt F .f32) (X2 : S1024x128.Idx → Elt F .f32) (Q : PUnit → sProp 𝕄) :
    iprop((owns (c : Thread nD τ) m0 fullShare X0 ∗ owns (c : Thread nD τ) m2 fullShare X2)
        ∗ (iprop(owns (c : Thread nD τ) m0 fullShare X0 ∗ owns (c : Thread nD τ) m2 fullShare (k0_pay1 X0)) -∗ Q ⟨⟩))
      ⊢ wp frame (wpE (defs₀ (F := F)) 𝒱₀ c none) Set.univ (cc0__table_t_body i m0 h0 m1 h1 m2 h2) Q := by
  simp only [cc0__table_t_body_eq_skeleton]; unfold cc0__table_t_body_skel
  simp only [Prog.lift, Prog.bind_op, Prog.bind_ret]
  unfold owns
  iintro ⟨⟨⟨%f0, %hf0, H0⟩, ⟨%f2, %hf2, H2⟩⟩, Hk⟩
  sl_steps
  iapply Hk
  isplitl [H0]
  · iexists f0; isplitr; · ipureintro; exact hf0
    iexact H0
  iexists _
  isplitr
  · ipureintro
    have hr : View.readAt (Elt F) m0.view (Rect.unit (s := S16x8192) ![0, 0] S16x8192.size inb_S16x8192_S16x8192_0_0).toLoadRect f0 = X0 :=
      (View.readAt_full m0.view f0 inb_S16x8192_S16x8192_0_0).trans hf0
    exact (View.read_writes_full m2.view f2 inb_S1024x128_S1024x128_0_0 _ []).trans (congrArg k0_pay1 hr)
  iexact H2

/-! ## The pipeline's data -/

variable (x : (c : Dev nD) → S16x1000000.Idx → Elt F .f32) (y : (c : Dev nD) → S8x16x128.Idx → Elt F .f32)
  (z : (c : Dev nD) → S125000x128.Idx → Elt F .f32)

/-- The pipeline's proof data: the arrays' contents at entry, what each staging buffer holds after each point. -/
def tableDat (n : ℕ) (c : Dev nD) : Dat τ (Elt F) (HIx 1) ℕ UU ℕ cfg0 c where
  A w := match w with
    | ⟨0, _⟩ => x c
    | ⟨1, _⟩ => y c
    | ⟨2, _⟩ => z c
  after w t := match w with
    | ⟨0, _⟩ => win0_0.fill (grid0.coords t) (fun _ => Scalar.ofBits .f32 0#32) (inBlk (x c) t)
    | ⟨1, _⟩ => y c
    | ⟨2, _⟩ => win0_2.fill (grid0.coords t) (fun _ => Scalar.ofBits .f32 0#32) (outBlk (x c) t)
  Φ _ := Pipeline.scopedRest spec0 c
  q _ := fullShare
  owed _ := (K (F := F)).Otc c n
  recorded _ := below (F := F) c n

theorem table_before_0 (n : ℕ) (c : Dev nD) (t : Fin cfg0.N) (d) :
    (tableDat x y z n c).before (0 : Fin 3) t d = win0_0.fill (grid0.coords t) d (inBlk (x c) t) := by
  unfold Dat.before; rw [if_pos (fetch0_0 t)]; rfl

theorem index_mid (t : Fin cfg0.N) : win0_1.index t = ![0, 0, 0] :=
  (by decide +kernel : ∀ t : Fin grid0.N, win0_1.index t = ![0, 0, 0]) t

/-- The second operand is one block, the array. -/
theorem table_mid (v : S8x16x128.Idx → Elt F .f32) (t : Fin cfg0.N) (j) : (win0_1.blk t).view.read (Elt F) v j = v (win0_1.xinj (grid0.coords t) j) := by
  rw [View.read_apply]
  refine congrArg v ?_
  blk_ext [index_mid t]

/-- So it is in its buffer at every point. -/
theorem table_before_1 (n : ℕ) (c : Dev nD) (t : Fin cfg0.N) (d) : (tableDat x y z n c).before (1 : Fin 3) t d = y c := by
  refine ((tableDat x y z n c).before_in_eq_fetched (1 : Fin 3) rfl (fun _ => rfl) (fun _ _ _ => rfl) (fun t => ?_) t d).trans ?_
  · exact (funext fun j => table_mid (y c) t j).symm
  · change win0_1.fill (grid0.coords t) d ((win0_1.blk t).view.read (Elt F) (y c)) = y c
    rw [show (win0_1.blk t).view.read (Elt F) (y c) = win0_1.cut (grid0.coords t) (y c) from funext fun j => table_mid (y c) t j]
    exact (Pipeline.fill_of_clip_none (cfg := cfg0) 1 (grid0.coords t) (fun _ => rfl) d (y c) _).trans (win0_1.fill_cut (grid0.coords t) (y c))

/-- Running the first pipeline. -/
theorem table_obligation (n : ℕ) (c : Dev nD) : BodyObligationLoose (tableDat x y z n c) (defs₀ (F := F)) 𝒱₀ (none : HIx 1) Set.univ := fun t => by
  rw [bigSep_W0, bigSep_W0]
  simp only
  rw [show (tableDat x y z n c).Φ t.succ = (tableDat x y z n c).Φ t.castSucc from rfl,
    show (tableDat x y z n c).owesAt none t.succ = (tableDat x y z n c).owesAt none t.castSucc from rfl]
  iintro ⟨HΦ, Ho, ⟨%d0, H0⟩, ⟨%d1, H1⟩, ⟨%d2, H2⟩⟩
  rw [table_before_0 x y z n c t d0, table_before_1 x y z n c t d1]
  iapply (table_body (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (inBlk (x c) t)) ((tableDat x y z n c).before (2 : Fin 3) t d2) _)
  isplitl [H0 H2]
  · isplitl [H0]; · iexact H0
    iexact H2
  iintro ⟨H0, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (win0_0.fill (grid0.coords t) (fun _ => Scalar.ofBits .f32 0#32) (inBlk (x c) t))))
    rw [Window.cut_fill]
    try iexact H0
  isplitl [H1]
  · try iexact H1
  · iexists k0_pay1 (win0_0.fill (grid0.coords t) d0 (inBlk (x c) t))
    change _ ⊢ owns (c : Thread nD τ) (stage0_2 (cfg0.slots t 2)) fullShare
      (win0_2.fill (grid0.coords t) (k0_pay1 (win0_0.fill (grid0.coords t) d0 (inBlk (x c) t)))
        (win0_2.cut (grid0.coords t) (win0_2.fill (grid0.coords t) (fun _ => Scalar.ofBits .f32 0#32) (outBlk (x c) t))))
    rw [Window.cut_fill, ← table_block (x c) t d0, Window.fill_cut]
    try iexact H2

/-- What the pipeline leaves in its result. -/
theorem table_final (n : ℕ) (c : Dev nD) : (tableDat x y z n c).arrAt (2 : Fin 3) cfg0.N = lines (x c) := by
  refine (tableDat x y z n c).arrAt_eq_of_covers (2 : Fin 3) _ (by decide +kernel) fun t hf j => ?_
  change win0_2.fill (grid0.coords t) (fun _ => Scalar.ofBits .f32 0#32) (outBlk (x c) t) (win0_2.xinj (grid0.coords t) j) = _
  rw [Window.fill_xinj]
  unfold outBlk
  rw [View.read_apply]
  rfl

end Cert.Proof.K

end
-- ==== Proof.OutT.lean ====
/-
  The second TensorCore kernel: from the rows gathered, eight to a line (102400 × 128), it writes the transpose of the rows,
  128 columns to a tile (2 × 51200 × 128), block after block.
-/
module

public import proofs.«01_k».proof.Proof.Region
public import Idealize.ShloMosaic.Lib.VecWindow
public import Idealize.ShloMosaic.Lib.Pipeline.ValueKit.Geometry

@[expose] public section

set_option maxRecDepth 16384

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Window BodyObligationLoose)

variable {F : FTy → Type} [FloatOps F]

local notation "𝕄" => MT nD τ sig (HIx 1) (Elt F) ℕ UU ℕ

/-! ## The block's value -/

/-- What the kernel writes for sixteen lines `x`, with the eight matrices `m`. -/
def chunk (x : Vec F S16x128 .f32) (m : Fin 8 → Vec F S1x16x128 .f32) : FVec F S2x8x128 .f32 :=
  k2_pay5 (k2_pay2 x) (k2_pay3 x (m 0) (m 1) (m 2) (m 3) (m 4)) (k2_pay4 x) (m 5) (m 6) (m 7)

/-- The matrix numbered `b`. -/
def mat (y : S8x16x128.Idx → Elt F .f32) (b : Fin 8) : Vec F S1x16x128 .f32 := fun j => y (ix3 b (j 1) (j 2))

/-- Sixteen lines of a block. -/
def sixteen (x : S256x128.Idx → Elt F .f32) (k : Fin 16) : Vec F S16x128 .f32 := fun j =>
  x (ix2 ⟨16 * k.val + (j 0).val, by have : (j 0).val < 16 := (j 0).isLt; omega⟩ (j 1))

/-- The whole block the body writes. -/
def outTile (x : S256x128.Idx → Elt F .f32) (y : S8x16x128.Idx → Elt F .f32) : S2x128x128.Idx → Elt F .f32 := fun i =>
  chunk (sixteen x ⟨(i 1).val / 8, by have : (i 1).val < 128 := (i 1).isLt; omega⟩) (mat y)
    (ix3 (i 0) ⟨(i 1).val % 8, Nat.mod_lt _ (by decide)⟩ (i 2))

/-! ## The body -/

/-- A piece stored at the rows from `o`, of the chunk's value, is the block there. -/
theorem piece_ok (m0 : View sig .tc .vmem S256x128 .f32) (m1 : View sig .tc .vmem S8x16x128 .f32) (f0 : m0.ty.Contents (Elt F)) (f1 : m1.ty.Contents (Elt F))
    (o : ℕ) (ho : o % 8 = 0) (inb0 : ∀ a, (![2 * o, 0] : Fin 2 → ℕ) a + S16x128.size a ≤ S256x128.size a)
    (inb1 : ∀ (b : Fin 8) a, (![b.val, 0, 0] : Fin 3 → ℕ) a + S1x16x128.size a ≤ S8x16x128.size a)
    (inb : ∀ a, (![0, o, 0] : Fin 3 → ℕ) a + S2x8x128.size a ≤ S2x128x128.size a) (w : S2x8x128.Idx → Elt F .f32)
    (hw : w = chunk (m0.readAt (Elt F) (Rect.unit (s := S256x128) ![2 * o, 0] S16x128.size inb0).toLoadRect f0)
      fun b => m1.readAt (Elt F) (Rect.unit (s := S8x16x128) ![b.val, 0, 0] S1x16x128.size (inb1 b)).toLoadRect f1) (x : S2x8x128.Idx) :
    w x = outTile (m0.read (Elt F) f0) (m1.read (Elt F) f1) ((Rect.unit (s := S2x128x128) ![0, o, 0] S2x8x128.size inb).emb x) := by
  have hx1 : (x 1).val < 8 := (x 1).isLt
  subst hw
  unfold outTile
  have e0 : m0.readAt (Elt F) (Rect.unit (s := S256x128) ![2 * o, 0] S16x128.size inb0).toLoadRect f0
      = sixteen (m0.read (Elt F) f0) ⟨(((Rect.unit (s := S2x128x128) ![0, o, 0] S2x8x128.size inb).emb x) 1).val / 8, by
        have : (((Rect.unit (s := S2x128x128) ![0, o, 0] S2x8x128.size inb).emb x) 1).val < 128 := Fin.isLt _; omega⟩ := by
    funext j
    refine congrArg (m0.read (Elt F) f0) (funext fun a => Fin.ext ?_)
    fin_cases a
    · show 2 * o + 1 * (j 0).val = 16 * ((o + 1 * (x 1).val) / 8) + (j 0).val
      omega
    · show 0 + 1 * (j 1).val = (j 1).val
      omega
  have e1 : (fun b : Fin 8 => m1.readAt (Elt F) (Rect.unit (s := S8x16x128) ![b.val, 0, 0] S1x16x128.size (inb1 b)).toLoadRect f1) = mat (m1.read (Elt F) f1) := by
    funext b j
    have hj : (j 0).val < 1 := (j 0).isLt
    refine congrArg (m1.read (Elt F) f1) (funext fun a => Fin.ext ?_)
    fin_cases a
    · show b.val + 1 * (j 0).val = b.val
      omega
    · show 0 + 1 * (j 1).val = (j 1).val
      omega
    · show 0 + 1 * (j 2).val = (j 2).val
      omega
  refine (congrArg₂ (fun p q => chunk p q x) e0 e1).trans (congrArg (chunk _ _) (funext fun a => Fin.ext ?_))
  fin_cases a
  · show (x 0).val = 0 + 1 * (x 0).val
    omega
  · show (x 1).val = (o + 1 * (x 1).val) % 8
    omega
  · show (x 2).val = 0 + 1 * (x 2).val
    omega

/-- Eight rows, from row `o`, of the block. -/
theorem mem_eight (y : S2x128x128.Idx) (o : ℕ) (inb : ∀ a, (![0, o, 0] : Fin 3 → ℕ) a + S2x8x128.size a ≤ S2x128x128.size a)
    (h : o ≤ (y 1).val ∧ (y 1).val < o + 8) : y ∈ (Rect.unit (s := S2x128x128) ![0, o, 0] S2x8x128.size inb).set := by
  rw [Rect.mem_set_unit]
  intro a
  fin_cases a
  · exact ⟨Nat.zero_le _, lt_of_lt_of_eq (y 0).isLt (Nat.zero_add 2).symm⟩
  · exact h
  · exact ⟨Nat.zero_le _, lt_of_lt_of_eq (y 2).isLt (Nat.zero_add 128).symm⟩

set_option maxHeartbeats 1000000 in
/-- The body on any three whole buffers: the first and the second stay, the third ends holding the block. -/
theorem out_body (c : Dev nD) (i : grid2.Coords) (m0 : Memref sig .tc .vmem S256x128 .f32) (h0 : m0.IsWhole)
    (m1 : Memref sig .tc .vmem S8x16x128 .f32) (h1 : m1.IsWhole) (m2 : Memref sig .tc .vmem S2x128x128 .f32) (h2 : m2.IsWhole)
    (X0 : S256x128.Idx → Elt F .f32) (X1 : S8x16x128.Idx → Elt F .f32) (X2 : S2x128x128.Idx → Elt F .f32) (Q : PUnit → sProp 𝕄) :
    iprop((owns (c : Thread nD τ) m0 fullShare X0 ∗ owns (c : Thread nD τ) m1 fullShare X1 ∗ owns (c : Thread nD τ) m2 fullShare X2)
        ∗ (iprop(owns (c : Thread nD τ) m0 fullShare X0 ∗ owns (c : Thread nD τ) m1 fullShare X1
            ∗ owns (c : Thread nD τ) m2 fullShare (outTile X0 X1)) -∗ Q ⟨⟩))
      ⊢ wp frame (wpE (defs₀ (F := F)) 𝒱₀ c none) Set.univ (cc2__out_t_body i m0 h0 m1 h1 m2 h2) Q := by
  simp only [cc2__out_t_body_eq_skeleton]; unfold cc2__out_t_body_skel
  simp only [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton, k2_part12_eq_skeleton,
    k2_part13_eq_skeleton, k2_part14_eq_skeleton, k2_part15_eq_skeleton, k2_part16_eq_skeleton, k2_part17_eq_skeleton, k2_part18_eq_skeleton,
    k2_part19_eq_skeleton, k2_part20_eq_skeleton, k2_part21_eq_skeleton, k2_part22_eq_skeleton, k2_part23_eq_skeleton, k2_part24_eq_skeleton]
  unfold k2_part1_skel k2_part2_skel k2_part3_skel k2_part4_skel k2_part5_skel k2_part6_skel k2_part7_skel k2_part8_skel
    k2_part9_skel k2_part10_skel k2_part11_skel k2_part12_skel k2_part13_skel k2_part14_skel k2_part15_skel k2_part16_skel
    k2_part17_skel k2_part18_skel k2_part19_skel k2_part20_skel k2_part21_skel k2_part22_skel k2_part23_skel k2_part24_skel
  simp only [Prog.lift, Prog.bind_op, Prog.bind_ret, pure_bind, bind_pure, Prog.bind_pure]
  unfold owns
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  iexists _
  isplitr
  rotate_left
  · iexact H2
  ipureintro
  subst hf0 hf1
  funext y
  refine View.read_writes_apply_of_pieces m2.view f2 (outTile _ _) _ ?_ y ?_
  · repeat' (refine List.forall_mem_cons.mpr ⟨?_, ?_⟩)
    rotate_right
    · exact fun _ h => absurd h List.not_mem_nil
    all_goals exact piece_ok m0.view m1.view f0 f1 _ (by decide) (by decide) (by decide) (by decide) _ rfl
  · have hy : (y 1).val < 128 := (y 1).isLt
    obtain ⟨k, hk16, hk⟩ : ∃ k, k < 16 ∧ k = (y 1).val / 8 := ⟨_, by omega, rfl⟩
    refine ⟨_, List.getElem_mem (n := 15 - k) (by show 15 - k < 16; omega), ?_⟩
    interval_cases k <;> exact mem_eight y _ (by decide) (by omega)

/-! ## The pipeline's data -/

/-- The lines of chunk `k` of the whole operand. -/
def sixteenOf (x : S102400x128.Idx → Elt F .f32) (k : Fin 6400) : Vec F S16x128 .f32 := fun j =>
  x (ix2 ⟨16 * k.val + (j 0).val, by have : (j 0).val < 16 := (j 0).isLt; omega⟩ (j 1))

/-- The whole result: each chunk's value at its rows. -/
def tiles (x : S102400x128.Idx → Elt F .f32) (y : S8x16x128.Idx → Elt F .f32) : S2x51200x128.Idx → Elt F .f32 := fun i =>
  chunk (sixteenOf x ⟨(i 1).val / 8, by have : (i 1).val < 51200 := (i 1).isLt; omega⟩) (mat y)
    (ix3 (i 0) ⟨(i 1).val % 8, Nat.mod_lt _ (by decide)⟩ (i 2))

theorem outT_index_in (t : Fin cfg2.N) : win2_0.index t = ![t.val, 0] :=
  (by decide +kernel : ∀ t : Fin grid2.N, win2_0.index t = ![t.val, 0]) t
theorem outT_index_mid (t : Fin cfg2.N) : win2_1.index t = ![0, 0, 0] :=
  (by decide +kernel : ∀ t : Fin grid2.N, win2_1.index t = ![0, 0, 0]) t
theorem outT_index_out (t : Fin cfg2.N) : win2_2.index t = ![0, t.val, 0] :=
  (by decide +kernel : ∀ t : Fin grid2.N, win2_2.index t = ![0, t.val, 0]) t

/-- The operand's block at a point. -/
def inTile (x : S102400x128.Idx → Elt F .f32) (t : Fin cfg2.N) : S256x128.Idx → Elt F .f32 := fun j =>
  x (ix2 ⟨256 * t.val + (j 0).val, by have : (j 0).val < 256 := (j 0).isLt; have := lt_of_lt_of_eq t.isLt N_2; omega⟩ (j 1))

variable (x : (c : Dev nD) → S102400x128.Idx → Elt F .f32) (y : (c : Dev nD) → S8x16x128.Idx → Elt F .f32)
  (z : (c : Dev nD) → S2x51200x128.Idx → Elt F .f32)

/-- The pipeline's proof data: the arrays' contents at entry, what each staging buffer holds after each point. -/
def outDat (n : ℕ) (c : Dev nD) : Dat τ (Elt F) (HIx 1) ℕ UU ℕ cfg2 c where
  A w := match w with
    | ⟨0, _⟩ => x c
    | ⟨1, _⟩ => y c
    | ⟨2, _⟩ => z c
  after w t := match w with
    | ⟨0, _⟩ => inTile (x c) t
    | ⟨1, _⟩ => y c
    | ⟨2, _⟩ => outTile (inTile (x c) t) (y c)
  Φ _ := Pipeline.scopedRest spec2 c
  q _ := fullShare
  owed _ := (K (F := F)).Otc c n
  recorded _ := below (F := F) c n

theorem outT_read_0 (v : S102400x128.Idx → Elt F .f32) (t : Fin cfg2.N) :
    (win2_0.blk t).view.read (Elt F) v = win2_0.cut (grid2.coords t) (inTile v t) := by
  funext j
  rw [View.read_apply]
  refine congrArg v ?_
  blk_ext [outT_index_in t]

theorem outT_read_1 (v : S8x16x128.Idx → Elt F .f32) (t : Fin cfg2.N) :
    (win2_1.blk t).view.read (Elt F) v = win2_1.cut (grid2.coords t) v := by
  funext j
  rw [View.read_apply]
  refine congrArg v ?_
  blk_ext [outT_index_mid t]

theorem outT_before_0 (n : ℕ) (c : Dev nD) (t : Fin cfg2.N) (d) : (outDat x y z n c).before (0 : Fin 3) t d = inTile (x c) t := by
  refine ((outDat x y z n c).before_in_eq_fetched (0 : Fin 3) rfl (fun _ => rfl) (fun _ _ _ => rfl) (fun t => ?_) t d).trans ?_
  · exact (outT_read_0 (x c) t).symm
  · change win2_0.fill (grid2.coords t) d ((win2_0.blk t).view.read (Elt F) (x c)) = inTile (x c) t
    rw [outT_read_0]
    exact (Pipeline.fill_of_clip_none (cfg := cfg2) 0 (grid2.coords t) (fun _ => rfl) d (inTile (x c) t) _).trans (win2_0.fill_cut (grid2.coords t) _)

theorem outT_before_1 (n : ℕ) (c : Dev nD) (t : Fin cfg2.N) (d) : (outDat x y z n c).before (1 : Fin 3) t d = y c := by
  refine ((outDat x y z n c).before_in_eq_fetched (1 : Fin 3) rfl (fun _ => rfl) (fun _ _ _ => rfl) (fun t => ?_) t d).trans ?_
  · exact (outT_read_1 (y c) t).symm
  · change win2_1.fill (grid2.coords t) d ((win2_1.blk t).view.read (Elt F) (y c)) = y c
    rw [outT_read_1]
    exact (Pipeline.fill_of_clip_none (cfg := cfg2) 1 (grid2.coords t) (fun _ => rfl) d (y c) _).trans (win2_1.fill_cut (grid2.coords t) _)

/-- Running the second pipeline. -/
theorem out_obligation (n : ℕ) (c : Dev nD) : BodyObligationLoose (outDat x y z n c) (defs₀ (F := F)) 𝒱₀ (none : HIx 1) Set.univ := fun t => by
  rw [bigSep_W2, bigSep_W2]
  simp only
  rw [show (outDat x y z n c).Φ t.succ = (outDat x y z n c).Φ t.castSucc from rfl,
    show (outDat x y z n c).owesAt none t.succ = (outDat x y z n c).owesAt none t.castSucc from rfl]
  iintro ⟨HΦ, Ho, ⟨%d0, H0⟩, ⟨%d1, H1⟩, ⟨%d2, H2⟩⟩
  rw [outT_before_0 x y z n c t d0, outT_before_1 x y z n c t d1]
  iapply (out_body (F := F) c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (inTile (x c) t) (y c) ((outDat x y z n c).before (2 : Fin 3) t d2) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

/-- What the pipeline leaves in its result. -/
theorem out_final (n : ℕ) (c : Dev nD) : (outDat x y z n c).arrAt (2 : Fin 3) cfg2.N = tiles (x c) (y c) := by
  refine (outDat x y z n c).arrAt_eq_of_covers (2 : Fin 3) _ (by decide +kernel) fun t hf j => ?_
  have ht := lt_of_lt_of_eq t.isLt N_2
  have hj0 : (j 0).val < 2 := (j 0).isLt
  have hj1 : (j 1).val < 128 := (j 1).isLt
  have hj2 : (j 2).val < 128 := (j 2).isLt
  have he : (win2_2.blk t).view.emb j = (ix3 (n0 := 2) (n1 := 51200) (n2 := 128) ⟨(j 0).val, hj0⟩ ⟨128 * t.val + (j 1).val, by omega⟩ ⟨(j 2).val, hj2⟩ : S2x51200x128.Idx) := by
    blk_ext [outT_index_out t]
  refine Eq.trans ?_ (congrArg (tiles (x c) (y c)) he).symm
  change outTile (inTile (x c) t) (y c) (win2_2.xinj (grid2.coords t) j) = _
  unfold outTile tiles
  have e0 : sixteen (inTile (x c) t) ⟨(j 1).val / 8, by omega⟩ = sixteenOf (x c) ⟨(128 * t.val + (j 1).val) / 8, by omega⟩ := by
    funext i
    refine congrArg (x c) (funext fun a => Fin.ext ?_)
    fin_cases a
    · show 256 * t.val + (16 * ((j 1).val / 8) + (i 0).val) = 16 * ((128 * t.val + (j 1).val) / 8) + (i 0).val
      omega
    · rfl
  refine (congrArg (fun p => chunk p (mat (y c)) _) e0).trans (congrArg (chunk _ _) (funext fun a => Fin.ext ?_))
  fin_cases a
  · rfl
  · show (j 1).val % 8 = (128 * t.val + (j 1).val) % 8
    omega
  · rfl

end Cert.Proof.K

end
-- ==== Proof.Tile.lean ====
/-
  One vector subcore's task of the gather kernel: twenty-five trips, each fetching 1024 row numbers, gathering those rows of
  the table by the indirect copy, and storing them as one chunk of the result. The loop's invariant says which chunks hold
  the gathered rows already.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers a task names -/

abbrev tabM : Memref sig .scVector .hbm S1000000x16 .f32 := Memref.whole main_v2_scv
abbrev lstM : Memref sig .scVector .hbm S819200 .i32 := Memref.whole main_v3_scv
abbrev outM : Memref sig .scVector .hbm S800x1024x16 .f32 := Memref.whole main_v4_scv
abbrev numM : Memref sig .scVector .vmem S1024 .i32 := Memref.whole cc1_scratch0
abbrev rowM : Memref sig .scVector .vmem S1024x16 .f32 := Memref.whole cc1_scratch1

section Tile

variable (d : Dev nD) (L : grid1.Coords)

/-- The subcore of grid point `L`, -/
abbrev thr (L : grid1.Coords) : Thread nD τ := V d ((L 0).castLE hcore1) ((L 1).castLE hsub1)

/-- and its number: twice the subcore's index and the core's. -/
def wid (L : grid1.Coords) : Fin (2 ^ 5) := ⟨2 * (L 1).val + (L 0).val, by
  have h0 : (L 0).val < 2 := (L 0).isLt
  have h1 : (L 1).val < 16 := (L 1).isLt
  omega⟩

omit [FloatOps F] in
theorem wid_val : (wid L).val = 2 * (L 1).val + (L 0).val := rfl

/-- The chunks task `w` writes: numbers `25 w` to `25 w + 24`. -/
def chunks (w : Fin (2 ^ 5)) : Finset S800x1024x16.Idx :=
  Finset.univ.filter fun i => 25 * w.val ≤ (i 0).val ∧ (i 0).val < 25 * w.val + 25

/-- The result with the task's first `k` chunks gathered. -/
def done (w : Fin (2 ^ 5)) (tab : S1000000x16.Idx → Elt F .f32) (lst : S819200.Idx → BitVec 32)
    (o : S800x1024x16.Idx → Elt F .f32) (k : ℕ) : S800x1024x16.Idx → Elt F .f32 :=
  fun i => if (i 0).val < 25 * w.val + k then gath tab lst i else o i

theorem trips_eq : k1_t1_loop.trips = 25 := by decide

/-- The chunk trip `t` writes, as the task addresses it. -/
abbrev outK (t : Fin k1_t1_loop.trips) : Memref sig .scVector .hbm S1024x16 .f32 :=
  ((outM).slice (Rect.unit (s := S800x1024x16) (k1_off2 L t) S1x1024x16.size (k1_off2_inb L t)) (fun _ => rfl)).squeeze S1024x16
    squeezes_S1x1024x16_S1024x16

theorem mem_outK (t : Fin k1_t1_loop.trips) (i : S800x1024x16.Idx) :
    i ∈ (outK L t).view.set ↔ (i 0).val = 25 * (wid L).val + t.val := by
  show i ∈ (((outM).view.slice (Rect.unit (s := S800x1024x16) (k1_off2 L t) S1x1024x16.size (k1_off2_inb L t))).reshape S1024x16
    squeezes_S1x1024x16_S1024x16.numel_eq).set ↔ _
  rw [View.set_reshape, View.set_slice_whole, Rect.mem_set_unit, k1_off2_eq, wid_val]
  have h1 : (i 1).val < 1024 := (i 1).isLt
  have h2 : (i 2).val < 16 := (i 2).isLt
  constructor
  · intro h
    have h0 := h 0
    have a0 : (![50 * (L 1).val + 25 * (L 0).val + t.val, 0, 0] : Fin 3 → ℕ) 0 = 50 * (L 1).val + 25 * (L 0).val + t.val := rfl
    have a1 : S1x1024x16.size 0 = 1 := rfl
    rw [a0, a1] at h0
    omega
  · intro h a
    match a with
    | 0 =>
      show 50 * (L 1).val + 25 * (L 0).val + t.val ≤ (i 0).val ∧ (i 0).val < 50 * (L 1).val + 25 * (L 0).val + t.val + 1
      omega
    | 1 => show 0 ≤ (i 1).val ∧ (i 1).val < 0 + 1024; omega
    | 2 => show 0 ≤ (i 2).val ∧ (i 2).val < 0 + 16; omega

theorem outK_sub (t : Fin k1_t1_loop.trips) : (outK L t).view.set ⊆ chunks (wid L) := fun i hi => by
  have := (mem_outK L t i).mp hi
  have ht : t.val < 25 := lt_of_lt_of_eq t.isLt trips_eq
  exact Finset.mem_filter.mpr ⟨Finset.mem_univ _, by omega⟩

/-- Index `x` of a chunk as an index of one layer. -/
def layer (x : S1024x16.Idx) : S1x1024x16.Idx := ix3 (n0 := 1) (n1 := 1024) (n2 := 16) 0 (x 0) (x 1)

/-- Index `x` of the chunk is index `(chunk number, x₀, x₁)` of the result. -/
theorem outK_emb (t : Fin k1_t1_loop.trips) (x : S1024x16.Idx) (h : 25 * (wid L).val + t.val < 800) :
    (outK L t).view.emb x = ix3 ⟨25 * (wid L).val + t.val, h⟩ (x 0) (x 1) := by
  have e : Shape.reshapeEquiv squeezes_S1x1024x16_S1024x16.numel_eq x = layer x := by
    apply Shape.reshapeEquiv_eq_of_rowMajor
    refine (Shape.rowMajor_val_three (layer x)).trans ?_
    refine Eq.trans ?_ (Shape.rowMajor_val_two x).symm
    show (0 * 1024 + (x 0).val) * 16 + (x 1).val = (x 0).val * 16 + (x 1).val
    omega
  have e' : (outK L t).view.emb x
      = (Rect.unit (s := S800x1024x16) (k1_off2 L t) S1x1024x16.size (k1_off2_inb L t)).emb (Shape.reshapeEquiv squeezes_S1x1024x16_S1024x16.numel_eq x) := rfl
  rw [e', e]
  funext a
  apply Fin.ext
  refine (Rect.emb_apply _ _ _).trans ?_
  match a with
  | 0 => show k1_off2 L t 0 + 1 * 0 = _; rw [k1_off2_eq]; show 50 * (L 1).val + 25 * (L 0).val + t.val + 1 * 0 = 25 * (wid L).val + t.val; rw [wid_val]; omega
  | 1 => show k1_off2 L t 1 + 1 * (x 0).val = _; rw [k1_off2_eq]; show 0 + 1 * (x 0).val = (x 0).val; omega
  | 2 => show k1_off2 L t 2 + 1 * (x 1).val = _; rw [k1_off2_eq]; show 0 + 1 * (x 1).val = (x 1).val; omega

/-- The row numbers trip `t` fetches, as the task addresses them; -/
abbrev lstK (t : Fin k1_t1_loop.trips) : Memref sig .scVector .hbm S1024 .i32 :=
  (lstM).slice (Rect.unit (s := S819200) (k1_off1 L t) S1024.size (k1_off1_inb L t)) (fun _ => rfl)

theorem lstK_emb (t : Fin k1_t1_loop.trips) (x : S1024.Idx) (h : 1024 * (25 * (wid L).val + t.val) + (x 0).val < 819200) :
    (lstK L t).view.emb x = ix1 ⟨1024 * (25 * (wid L).val + t.val) + (x 0).val, h⟩ := by
  have e' : (lstK L t).view.emb x = (Rect.unit (s := S819200) (k1_off1 L t) S1024.size (k1_off1_inb L t)).emb x := rfl
  rw [e']
  funext a
  apply Fin.ext
  rw [Rect.emb_apply]
  match a with
  | 0 =>
    show k1_off1 L t 0 + 1 * (x 0).val = 1024 * (25 * (wid L).val + t.val) + (x 0).val
    rw [k1_off1_eq, wid_val]; show 51200 * (L 1).val + 25600 * (L 0).val + 1024 * t.val + 1 * (x 0).val = _; omega

/-- the whole table, as the task addresses it. -/
abbrev tabK : Memref sig .scVector .hbm S1000000x16 .f32 :=
  (tabM).slice (Rect.unit (s := S1000000x16) ![0, 0] S1000000x16.size inb_S1000000x16_S1000000x16_0_0) (fun _ => rfl)

omit [FloatOps F] in
theorem tabK_emb (x : S1000000x16.Idx) : (tabK).view.emb x = x := by
  have e' : (tabK).view.emb x = (Rect.unit (s := S1000000x16) ![0, 0] S1000000x16.size inb_S1000000x16_S1000000x16_0_0).emb x := rfl
  rw [e']
  funext a
  apply Fin.ext
  rw [Rect.emb_apply]
  match a with
  | 0 => show 0 + 1 * (x 0).val = (x 0).val; omega
  | 1 => show 0 + 1 * (x 1).val = (x 1).val; omega

/-! ## The scratch buffers and semaphores among the subcore's own -/

abbrev cA (d : Dev nD) (L : grid1.Coords) : GSem nD τ sig := (thr d L, .dma cc1_scratch2.sem)
abbrev cB (d : Dev nD) (L : grid1.Coords) : GSem nD τ sig := (thr d L, .dma cc1_scoped0.sem)
abbrev cC (d : Dev nD) (L : grid1.Coords) : GSem nD τ sig := (thr d L, .dma cc1_scoped1.sem)

omit [FloatOps F] in
theorem ownSems0_thr :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scoped1.sem : SemLoc sig).isScoped .scVector = true; decide⟩⟩⟩)]

omit [FloatOps F] in
theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (thr d L).2).erase ((thr d L).2.devRef cc1_scratch0)).erase ((thr d L).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d L).2) (b := (thr d L).2.devRef cc1_scratch1) rfl⟩)]

/-! ## The points-tos at the addresses the task uses -/

omit [FloatOps F] in
theorem pts_tab (q : PosShare TreeShare) (f : Buf (Elt F) (tabLoc d)) :
    ((tabM).view.loc (thr d L) ↦{q} f : sProp 𝕄) = (tabLoc d ↦{q} f) := rfl
omit [FloatOps F] in
theorem pts_lst (q : PosShare TreeShare) (f : Buf (Elt F) (lstLoc d)) :
    ((lstM).view.loc (thr d L) ↦{q} f : sProp 𝕄) = (lstLoc d ↦{q} f) := rfl
omit [FloatOps F] in
theorem pts_out (I : Finset S800x1024x16.Idx) (f : Buf (Elt F) (outLoc d)) :
    ((outM).view.loc (thr d L) ↦[I]{fullShare} f : sProp 𝕄) = (outLoc d ↦[I]{fullShare} f) := rfl
omit [FloatOps F] in
theorem pts_num (f : Buf (Elt F) ((thr d L).loc cc1_scratch0)) :
    ((numM).view.loc (thr d L) ↦{fullShare} f : sProp 𝕄) = ((thr d L).loc cc1_scratch0 ↦{fullShare} f) := rfl
omit [FloatOps F] in
theorem pts_row (f : Buf (Elt F) ((thr d L).loc cc1_scratch1)) :
    ((rowM).view.loc (thr d L) ↦{fullShare} f : sProp 𝕄) = ((thr d L).loc cc1_scratch1 ↦{fullShare} f) := rfl

/-- The rows' credits add up to the buffer's. -/
theorem credit_rows (h : S1000000x16.Gathers 0 S1024x16) :
    ∑ j, ((rowM).slice (S1024x16.rowRect h.axis' j) (S1024x16.stride_rowRect h.axis' j)).view.dmaCredit = (rowM).view.dmaCredit := by
  have e : ∀ j, ((rowM).slice (S1024x16.rowRect h.axis' j) (S1024x16.stride_rowRect h.axis' j)).view.dmaCredit
      = ((rowM).slice (S1024x16.rowRect h.axis' ⟨0, by decide +revert⟩) (S1024x16.stride_rowRect h.axis' ⟨0, by decide +revert⟩)).view.dmaCredit := fun _ => rfl
  rw [Finset.sum_congr rfl fun j _ => e j, Finset.sum_const]
  decide +revert

/-! ## The loop -/

variable (tab : Buf (Elt F) (tabLoc d)) (lst : Buf (Elt F) (lstLoc d)) (o : Buf (Elt F) (outLoc d))

/-- Every number of the list names a row of the table. -/
def InRange {dd : Dev nD} (lst : Buf (Elt F) (lstLoc dd)) : Prop := ∀ j : S819200.Idx, (lst j : BitVec 32).toNat < 1000000

/-- Entry `k` of a chunk's numbers. -/
def entry (k : Fin 1024) : S1024.Idx := ix1 (n0 := 1024) k

/-- The gather's payload at trip `t`: the chunk's rows of the table. -/
theorem payload_apply (hr : InRange lst) (t : Fin k1_t1_loop.trips) (num : S1024.Idx → BitVec 32)
    (hnum : num = (lstK L t).view.read (Elt F) lst)
    (hin : ∀ x, (num x).toNat < S1000000x16.size gathers_S1000000x16_S1024x16.axis)
    (hn : S1024.numel = S1024x16.size gathers_S1000000x16_S1024x16.axis') (h800 : 25 * (wid L).val + t.val < 800) (x : S1024x16.Idx) :
    SparseCore.gatherPayload (F := F) (e := .f32) gathers_S1000000x16_S1024x16 ((tabK).view.read (Elt F) tab) (SparseCore.rows (F := F) num hn hin) x
      = gath tab lst (ix3 ⟨25 * (wid L).val + t.val, h800⟩ (x 0) (x 1)) := by
  have hx : (x 0).val < 1024 := (x 0).isLt
  have hl : ∀ y : S1024.Idx, num y = lst (ix1 ⟨1024 * (25 * (wid L).val + t.val) + (y 0).val, by have : (y 0).val < 1024 := (y 0).isLt; omega⟩) := fun y => by
    rw [hnum]
    refine (View.read_apply _ _).trans ((cast_eq _ _).trans ?_)
    rw [lstK_emb]
  have hy : S1024.rowMajor.symm ((x 0 : Fin 1024).cast hn.symm) = entry (x 0) :=
    (Equiv.symm_apply_eq _).mpr (Fin.ext (Shape.rowMajor_val_one (entry (x 0))).symm)
  refine ((View.read_apply _ _).trans (cast_eq _ _)).trans ?_
  rw [tabK_emb]
  unfold gath
  congr 1
  funext a
  match a with
  | 0 =>
    refine (Shape.Gathers.idx_axis gathers_S1000000x16_S1024x16 _ x).trans ?_
    apply Fin.ext
    show (num (S1024.rowMajor.symm ((x 0 : Fin 1024).cast hn.symm))).toNat = _
    rw [hy, hl]
    exact (Nat.mod_eq_of_lt (hr _)).symm
  | 1 =>
    apply Fin.ext
    exact Shape.Gathers.idx_of_ne gathers_S1000000x16_S1024x16 _ x 1 (by decide)

/-- What one trip leaves in its chunk. -/
theorem chunk_value (t : Fin k1_t1_loop.trips) (p : S1024x16.Idx → Elt F .f32) (h800 : 25 * (wid L).val + t.val < 800)
    (hp : ∀ x, p x = gath tab lst (ix3 ⟨25 * (wid L).val + t.val, h800⟩ (x 0) (x 1))) (f : Buf (Elt F) (outLoc d)) :
    ∀ i ∈ (outK L t).view.set,
      (outK L t).view.writes (Elt F) f [⟨Rect.whole S1024x16, p⟩] i = done (wid L) tab lst o (t.val + 1) i := by
  intro i hi
  obtain ⟨x, -, rfl⟩ := Finset.mem_map.mp hi
  rw [View.writes_singleton]
  have e : (outK L t).view.emb x = ((outK L t).view.slice (Rect.whole S1024x16)).emb x := by
    have h : (Rect.whole S1024x16).emb x = x := Rect.emb_whole_apply S1024x16 x
    exact congrArg (outK L t).view.emb h.symm
  rw [e, View.write_emb_of_mem _ _ (Finset.mem_univ x), ← e, outK_emb L t x h800]
  refine (cast_eq _ _).trans ((hp x).trans ?_)
  exact (if_pos (show 25 * (wid L).val + t.val < 25 * (wid L).val + (t.val + 1) by omega)).symm

/-- The other chunks are as they were. -/
theorem rest_value (t : Fin k1_t1_loop.trips) :
    ∀ i ∈ chunks (wid L) \ (outK L t).view.set, done (wid L) tab lst o t.val i = done (wid L) tab lst o (t.val + 1) i := by
  intro i hi
  have h := (Finset.mem_sdiff.mp hi).2
  rw [mem_outK] at h
  unfold done
  by_cases h' : (i 0).val < 25 * (wid L).val + t.val
  · rw [if_pos h', if_pos (by omega)]
  · rw [if_neg h', if_neg (by omega)]

/-- What the task holds with its first `k` chunks gathered: shares of the table and the list, its chunks, its scratch
    buffers at whatever they hold, its semaphores at zero and its record of waits. -/
def inv (q : PosShare TreeShare) (O : CellTallies nD τ sig (HIx 1)) (W : Waits sig (HIx 1)) (k : ℕ) (_ : PUnit) : sProp 𝕄 :=
  iprop(Transfers.MayWaits (thr d L) (default : HIx 1) O
    ∗ ((tabM).view.loc (thr d L) ↦{q} tab) ∗ ((lstM).view.loc (thr d L) ↦{q} lst)
    ∗ ((outM).view.loc (thr d L) ↦[chunks (wid L)]{fullShare} done (wid L) tab lst o k)
    ∗ (∃ f, (numM).view.loc (thr d L) ↦{fullShare} f) ∗ (∃ f, (rowM).view.loc (thr d L) ↦{fullShare} f)
    ∗ semVal (cA d L) 0 ∗ semVal (cB d L) 0 ∗ semVal (cC d L) 0
    ∗ ∃ W', ⌜∀ p ∈ W', p ∈ W ∨ p.2 = none⌝ ∗ owes (thr d L) O W')

/-- One trip. -/
theorem trip (hr : InRange lst) (q : PosShare TreeShare) (O : CellTallies nD τ sig (HIx 1)) (W : Waits sig (HIx 1)) (t : Fin k1_t1_loop.trips) (u : PUnit) :
    inv d L tab lst o q O W t.val u
      ⊢ wp frame (wpE (defs₀ (F := F)) 𝒱₀ (thr d L) none) Set.univ
          (k1_t1_body L tabM (Memref.isWhole_whole _) lstM (Memref.isWhole_whole _) outM (Memref.isWhole_whole _)
            numM (Memref.isWhole_whole _) rowM (Memref.isWhole_whole _) cc1_scratch2 cc1_scoped0 cc1_scoped1 t u)
          fun _ => inv d L tab lst o q O W (t.val + 1) u := by
  unfold inv k1_t1_body
  iintro ⟨#Hmw, Htab, Hlst, Hout, ⟨%fnum, Hnum⟩, ⟨%frow, Hrow⟩, HA, HB, HC, %W', %hW', HO⟩
  sl_exec
  have hin : ∀ x, ((numM).view.read (Elt F) ((numM).view.write (Elt F) fnum ((lstK L t).view.read (Elt F) lst) Finset.univ) x).toNat
      < S1000000x16.size gathers_S1000000x16_S1024x16.axis := fun x => by
    rw [View.write_whole_univ]
    exact lt_of_eq_of_lt (congrArg BitVec.toNat ((View.read_apply _ _).trans (cast_eq _ _))) (hr _)
  ihave Htab := (pointsTo_split_subset (q := q) (f := tab) (S := Finset.univ) (Finset.subset_univ (tabK).view.set)).1 $$ Htab
  icases Htab with ⟨Htab, Htab'⟩
  have hrs : (rowM).view.set = Finset.univ := View.set_whole _
  have hss : (numM).view.set = Finset.univ := View.set_whole _
  ihave Hrow := (Entails.of_eq (show ((rowM).view.loc (thr d L) ↦{fullShare} frow : sProp 𝕄)
      = (rowM).view.loc (thr d L) ↦[(rowM).view.set]{fullShare} frow by rw [hrs])) $$ Hrow
  ihave Hnum := (Entails.of_eq (show ((numM).view.loc (thr d L) ↦{fullShare} View.write (Elt F) (numM).view fnum (trip.sl.dma0 d L lst t) Finset.univ : sProp 𝕄)
      = (numM).view.loc (thr d L) ↦[(numM).view.set]{fullShare} View.write (Elt F) (numM).view fnum ((lstK L t).view.read (Elt F) lst) Finset.univ
      by rw [hss]; rfl)) $$ Hnum
  iapply (SparseCore.wp_indirectGatherLocal countersEmb 𝒱₀ (thr d L) none (hg := gathers_S1000000x16_S1024x16) (default : HIx 1)
      (rowM).view.dmaCredit (credit_rows _) (by decide) hin) $$ [Htab Hrow Hnum HA]
  · isplitl [Htab]; · iexact Htab
    isplitl [Hrow]; · iexact Hrow
    isplitl [Hnum]; · iexact Hnum
    iexact HA
  iintro Hfl
  sl_exec
  iapply (Transfers.wp_waitLocalO countersEmb 𝒱₀ (thr d L) none (default : HIx 1) (rfl : (rowM).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hrow, Htab, Hnum⟩, HA, HO⟩
  ihave Htab := (pointsTo_split_subset (q := q) (f := tab) (S := Finset.univ) (Finset.subset_univ (tabK).view.set)).2 $$ [Htab Htab']; · isplitl [Htab] <;> iassumption
  ihave Hrow := (Entails.of_eq (show ((rowM).view.loc (thr d L) ↦[(rowM).view.set]{fullShare} _ : sProp 𝕄)
      = (rowM).view.loc (thr d L) ↦{fullShare} _ by rw [hrs])) $$ Hrow
  ihave Hnum := (Entails.of_eq (show ((numM).view.loc (thr d L) ↦[(numM).view.set]{fullShare} _ : sProp 𝕄)
      = (numM).view.loc (thr d L) ↦{fullShare} _ by rw [hss])) $$ Hnum
  ihave Hout := (pointsTo_split_subset (q := fullShare) (f := done (wid L) tab lst o t.val) (outK_sub L t)).1 $$ Hout
  icases Hout with ⟨Hout, Hout'⟩
  ihave Hout := (Entails.of_eq (show ((outLoc d ↦[(outK L t).view.set]{fullShare} _ : sProp 𝕄))
      = (outK L t).view.loc (thr d L) ↦[(outK L t).view.set]{fullShare} _ from rfl)) $$ Hout
  sl_exec
  sl_step
  have ht : t.val < 25 := lt_of_lt_of_eq t.isLt trips_eq
  have hw : (wid L).val < 32 := (wid L).isLt
  ihave Hout := (Entails.of_eq (pointsTo_congr (chunk_value d L tab lst o t (trip.sl.dma0_1 d L tab lst t fnum frow hin) (by omega)
    (fun x => by
      refine Eq.trans ?_ (payload_apply d L tab lst hr t _ (by rw [View.write_whole_univ]; rfl) hin k1_t1_body._proof_7 (by omega) x)
      show View.read (Elt F) (rowM).view (View.write (Elt F) (rowM).view frow _ Finset.univ) x = _
      rw [View.write_whole_univ]; rfl) _))) $$ Hout
  ihave Hout' := (Entails.of_eq (pointsTo_congr (rest_value d L tab lst o t))) $$ Hout'
  ihave Hout := (pointsTo_split_subset (ℓ := outLoc d) (q := fullShare) (f := done (wid L) tab lst o (t.val + 1)) (outK_sub L t)).2 $$ [Hout Hout']
  · isplitl [Hout] <;> iassumption
  isplitr; · iexact Hmw
  isplitl [Htab]; · iexact Htab
  isplitl [Hlst]; · iexact Hlst
  isplitl [Hout]; · iexact Hout
  isplitl [Hnum]; · iexists _; iexact Hnum
  isplitl [Hrow]; · iexists _; iexact Hrow
  isplitl [HA]; · iexact HA
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- What a task is handed: shares of the table and the list, and its chunks of the result at `o`. -/
def goods (tab : Buf (Elt F) (tabLoc d)) (lst : Buf (Elt F) (lstLoc d)) (o : Buf (Elt F) (outLoc d)) (w : Fin (2 ^ 5)) : sProp 𝕄 :=
  iprop((tabLoc d ↦{piece 5 fullShare w} tab) ∗ (lstLoc d ↦{piece 5 fullShare w} lst) ∗ (outLoc d ↦[chunks w]{fullShare} o))

/-- What it hands back: its chunks gathered. -/
def made (tab : Buf (Elt F) (tabLoc d)) (lst : Buf (Elt F) (lstLoc d)) (w : Fin (2 ^ 5)) : sProp 𝕄 :=
  iprop(outLoc d ↦[chunks w]{fullShare} gath tab lst)

/-- The whole task. -/
theorem tile_body (hF : (K (F := F)).Facts) (hr : InRange lst) (O : CellTallies nD τ sig (HIx 1)) (W : Waits sig (HIx 1)) (hO : ∀ g, O g none = 0) :
    iprop(levAts (K (F := F)).L (K (F := F)).lev ∗ emp ∗ goods d tab lst o (wid L)
        ∗ scopedBufs (thr d L) ∗ scopedSems0 (thr d L) ∗ owes (thr d L) O W)
      ⊢ wp frame (wpE (defs₀ (F := F)) 𝒱₀ (thr d L) none) Set.univ
          (cc1_gather_kernel L tabM (Memref.isWhole_whole _) lstM (Memref.isWhole_whole _) outM (Memref.isWhole_whole _)
            numM (Memref.isWhole_whole _) rowM (Memref.isWhole_whole _) cc1_scratch2 cc1_scoped0 cc1_scoped1)
          fun _ => iprop(made d tab lst (wid L) ∗ scopedBufs (thr d L) ∗ scopedSems0 (thr d L)
            ∗ ∃ W', ⌜∀ p ∈ W', p ∈ W ∨ p.2 = none⌝ ∗ owes (thr d L) O W') := by
  simp only [cc1_gather_kernel_eq_skeleton]; unfold cc1_gather_kernel_skel
  rw [(K (F := F)).scopedBufs_V hF d _ _, SparseCore.Cfg.scopedSems0_V (Val := Elt F) d _ _, ownSems0_thr, ownBufs_thr]
  unfold goods made
  iintro ⟨#Hlv, -, ⟨Htab, Hlst, Hout⟩, ⟨⟨%fnum, Hnum⟩, ⟨%frow, Hrow⟩, Hbufs⟩, ⟨HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Hout := (Entails.of_eq (pointsTo_congr (g := done (wid L) tab lst o 0) fun i hi => by
    have := (Finset.mem_filter.mp hi).2
    unfold done; rw [if_neg (by omega)])) $$ Hout
  sl_for (inv d L tab lst o (piece 5 fullShare (wid L)) O W) $$ [Hmw Htab Hlst Hout Hnum Hrow HA HB HC HO]
  case region =>
    intro k u
    exact trip d L tab lst o hr _ O W k u
  · unfold inv
    isplitl [Hmw]; · iexact Hmw
    isplitl [Htab]; · iexact Htab
    isplitl [Hlst]; · iexact Hlst
    isplitl [Hout]; · iexact Hout
    isplitl [Hnum]; · iexists _; iexact Hnum
    isplitl [Hrow]; · iexists _; iexact Hrow
    isplitl [HA]; · iexact HA
    isplitl [HB]; · iexact HB
    isplitl [HC]; · iexact HC
    iexists W; isplitr
    · ipureintro; exact fun p hp => .inl hp
    · iexact HO
  iintro %_ HI
  unfold inv
  icases HI with ⟨-, Htab, Hlst, Hout, ⟨%fnum', Hnum⟩, ⟨%frow', Hrow⟩, HA, HB, HC, %W', %hW', HO⟩
  sl_step
  isplitl [Hout]
  · iapply (Entails.of_eq (pointsTo_congr (f := done (wid L) tab lst o k1_t1_loop.trips) (g := gath tab lst) fun i hi => by
      have := (Finset.mem_filter.mp hi).2
      unfold done; rw [trips_eq, if_pos this.2]))
    iexact Hout
  isplitl [Hnum Hrow Hbufs]
  · isplitl [Hnum]; · iexists _; iexact Hnum
    isplitl [Hrow]; · iexists _; iexact Hrow
    iexact Hbufs
  isplitl [HA HB HC Hsems]
  · isplitl [HA]; · iexact HA
    isplitl [HB]; · iexact HB
    isplitl [HC]; · iexact HC
    iexact Hsems
  iexists W'; isplitr
  · ipureintro; exact hW'
  · iexact HO

end Tile

end Cert.Proof.K

end
-- ==== Proof.Call.lean ====
/-
  The gather kernel's call: what its handshakes carry, the tasks' obligation, and how the call's arrays are dealt out to
  the thirty-two tasks and come back as one gathered array.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tab : (d : Dev nD) → Buf (Elt F) (tabLoc d)) (lst : (d : Dev nD) → Buf (Elt F) (lstLoc d)) (o : (d : Dev nD) → Buf (Elt F) (outLoc d))

/-- The number of the task on subcore `s` of core `c`. -/
def num (c : Fin 2) (s : Fin 16) : Fin (2 ^ 5) := ⟨2 * s.val + c.val, by omega⟩

/-- Every number below thirty-two is one task's. -/
def tasks : Fin 2 × Fin 16 ≃ Fin (2 ^ 5) where
  toFun p := num p.1 p.2
  invFun w := (⟨w.val % 2, Nat.mod_lt _ (by decide)⟩, ⟨w.val / 2, by have := w.isLt; omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- The call's arrays go out as the tasks' goods, core by core, and come back as what the tasks made. -/
def P : (K (F := F)).Pay (nD := nD) (Val := Elt F) (Name := ℕ) (U := UU) where
  st := fun q d c => match q with
    | 0 => bigSep Finset.univ fun s : Fin 16 => goods d (tab d) (lst d) (o d) (num (Fin.cast nCore_zero c) s)
  dn := fun q d c => match q with
    | 0 => bigSep Finset.univ fun s : Fin 16 => made d (tab d) (lst d) (num (Fin.cast nCore_zero c) s)
  go := fun q d c i => match q with
    | 0 => goods d (tab d) (lst d) (o d) (num (Fin.cast nCore_zero c) (Fin.cast nSub_zero i))
  td := fun q d c i => match q with
    | 0 => made d (tab d) (lst d) (num (Fin.cast nCore_zero c) (Fin.cast nSub_zero i))
  x := fun _ _ => iprop(emp)

instance goods_storable (d : Dev nD) (w : Fin (2 ^ 5)) : BI.Storable (upEmb : UEmb _ 𝕄) (goods d (tab d) (lst d) (o d) w) := by
  unfold goods; infer_instance
instance made_storable (d : Dev nD) (w : Fin (2 ^ 5)) : BI.Storable (upEmb : UEmb _ 𝕄) (made d (tab d) (lst d) w) := by
  unfold made; infer_instance

instance P_storable : (P (F := F) tab lst o).IsStorable where
  st q d c := match q with
    | 0 => (inferInstance : BI.Storable (upEmb : UEmb _ 𝕄)
      (bigSep Finset.univ fun s : Fin 16 => goods d (tab d) (lst d) (o d) (num (Fin.cast nCore_zero c) s)))
  dn q d c := match q with
    | 0 => (inferInstance : BI.Storable (upEmb : UEmb _ 𝕄)
      (bigSep Finset.univ fun s : Fin 16 => made d (tab d) (lst d) (num (Fin.cast nCore_zero c) s)))
  go q d c i := match q with
    | 0 => (inferInstance : BI.Storable (upEmb : UEmb _ 𝕄) (goods d (tab d) (lst d) (o d) (num (Fin.cast nCore_zero c) (Fin.cast nSub_zero i))))
  td q d c i := match q with
    | 0 => (inferInstance : BI.Storable (upEmb : UEmb _ 𝕄) (made d (tab d) (lst d) (num (Fin.cast nCore_zero c) (Fin.cast nSub_zero i))))

/-! ## The obligation -/

def gridAt (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (gridAt c s)
          tabM (Memref.isWhole_whole _) lstM (Memref.isWhole_whole _) outM (Memref.isWhole_whole _)
          numM (Memref.isWhole_whole _) rowM (Memref.isWhole_whole _) cc1_scratch2 cc1_scoped0 cc1_scoped1) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : ∀ d, InRange (lst d)) : (K (F := F)).TileObl (D (F := F)) 𝒱 (P tab lst o) v₀ 0 := by
  intro d c i O W hO _ _
  simp only [show (P tab lst o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (gridAt ⟨_, hci.1⟩ ⟨_, hci.2⟩) (tab d) (lst d) (o d) hF (hr d) O W hO).trans (wp_mono frame _ _ fun _ => weaken_waits)

/-! ## Dealing out and joining -/

omit [FloatOps F] in
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P tab lst o) 0 := by
  intro d c
  show (bigSep Finset.univ fun s : Fin 16 => goods d (tab d) (lst d) (o d) (num (Fin.cast nCore_zero c) s)) ⊢ |={Set.univ}=> iprop(
      (bigSep Finset.univ fun i : Fin ((K (F := F)).nSub 0) => goods d (tab d) (lst d) (o d) (num (Fin.cast nCore_zero c) (Fin.cast nSub_zero i)))
      ∗ ((bigSep Finset.univ fun i : Fin ((K (F := F)).nSub 0) => made d (tab d) (lst d) (num (Fin.cast nCore_zero c) (Fin.cast nSub_zero i)))
          -∗ bigSep Finset.univ fun s : Fin 16 => made d (tab d) (lst d) (num (Fin.cast nCore_zero c) s)))
  rw [over_subs (F := F) (fun s => goods d (tab d) (lst d) (o d) (num (Fin.cast nCore_zero c) s)),
    over_subs (F := F) (fun s => made d (tab d) (lst d) (num (Fin.cast nCore_zero c) s))]
  iintro H; imodintro
  isplitl [H]; · iexact H
  iintro H; iexact H

omit [FloatOps F] in
/-- A family over the tasks, taken core by core. -/
theorem bigSep_tasks (Φ : Fin (2 ^ 5) → sProp 𝕄) :
    (bigSep Finset.univ fun c : Fin 2 => bigSep Finset.univ fun s : Fin 16 => Φ (num c s)) = bigSep Finset.univ Φ := by
  rw [bigSep_univ_equiv tasks]
  exact (bigSep_univ_prod (fun p : Fin 2 × Fin 16 => Φ (num p.1 p.2))).symm

omit [FloatOps F] in
theorem chunks_disjoint : ∀ w ∈ (Finset.univ : Finset (Fin (2 ^ 5))), ∀ w' ∈ (Finset.univ : Finset (Fin (2 ^ 5))), w ≠ w' → Disjoint (chunks w) (chunks w') := by
  intro w _ w' _ h
  refine Finset.disjoint_left.mpr fun i hi hi' => h (Fin.ext ?_)
  have h1 := (Finset.mem_filter.mp hi).2
  have h2 := (Finset.mem_filter.mp hi').2
  omega

omit [FloatOps F] in
theorem chunks_cover : (Finset.univ : Finset (Fin (2 ^ 5))).biUnion chunks = Finset.univ := by
  refine Finset.eq_univ_iff_forall.mpr fun i => ?_
  have h : (i 0).val < 800 := (i 0).isLt
  refine Finset.mem_biUnion.mpr ⟨⟨(i 0).val / 25, by show _ < 32; omega⟩, Finset.mem_univ _, Finset.mem_filter.mpr ⟨Finset.mem_univ _, ?_⟩⟩
  show 25 * ((i 0).val / 25) ≤ (i 0).val ∧ (i 0).val < 25 * ((i 0).val / 25) + 25
  omega

omit [FloatOps F] in
theorem out_chunks (d : Dev nD) (f : Buf (Elt F) (outLoc d)) :
    (outLoc d ↦{fullShare} f : sProp 𝕄) = bigSep Finset.univ fun w : Fin (2 ^ 5) => outLoc d ↦[chunks w]{fullShare} f := by
  rw [← pointsTo_biUnion Finset.univ (ℓ := outLoc d) chunks chunks_disjoint, chunks_cover]; try rfl

/-- The three arrays are what the call takes; -/
theorem call_takes (d : Dev nD) :
    (iprop((tabLoc d ↦{fullShare} tab d) ∗ (lstLoc d ↦{fullShare} lst d) ∗ (outLoc d ↦{fullShare} o d)) : sProp 𝕄)
      = bigSep Finset.univ fun c : Fin ((K (F := F)).nCore 0) => (P tab lst o).st 0 d c := by
  refine Eq.trans ?_ (over_cores (F := F) fun c => bigSep Finset.univ fun s : Fin 16 => goods d (tab d) (lst d) (o d) (num c s)).symm
  rw [bigSep_tasks (fun w => goods d (tab d) (lst d) (o d) w)]
  unfold goods
  rw [bigSep_sep', bigSep_sep', pointsTo_pieces (tab d) 5, pointsTo_pieces (lst d) 5, out_chunks]

/-- and what it hands back is the result, gathered. -/
theorem call_makes (d : Dev nD) :
    (bigSep Finset.univ fun c : Fin ((K (F := F)).nCore 0) => (P tab lst o).dn 0 d c)
      = (outLoc d ↦{fullShare} (gath (tab d) (lst d) : Buf (Elt F) (outLoc d)) : sProp 𝕄) := by
  refine (over_cores (F := F) fun c => bigSep Finset.univ fun s : Fin 16 => made d (tab d) (lst d) (num c s)).trans ?_
  rw [bigSep_tasks (fun w => made d (tab d) (lst d) w)]
  unfold made
  rw [out_chunks]

end Cert.Proof.K

end
-- ==== Proof.Main.lean ====
/-
  The whole kernel: what each array of `@main` ends at, the TensorCore's run through the two TensorCore kernels and the
  SparseCore call, and the program's run.
-/
module

public import proofs.«01_k».proof.Proof.Table
public import proofs.«01_k».proof.Proof.OutT
public import proofs.«01_k».proof.Proof.Call

@[expose] public section

set_option maxRecDepth 16384

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat)

variable {F : FTy → Type} [FloatOps F]

local notation "𝕄" => MT nD τ sig (HIx 1) (Elt F) ℕ UU ℕ

/-! ## One operation of `@main` -/

/-- An operation that reads the array `a` and writes the array `b`. -/
theorem wp_unary (V₀ : Valuation τ sig (Elt F)) (d : Dev nD) (a b : Ref sig .tc) (hab : a ≠ b) (f : a.ty.Contents (Elt F) → b.ty.Contents (Elt F)) (ha hb)
    (x : a.ty.Contents (Elt F)) (y : b.ty.Contents (Elt F)) (Q : PUnit → sProp 𝕄) :
    iprop((boundary (SparseCore.T d) ∗ (tcLoc d a ↦{fullShare} x) ∗ (tcLoc d b ↦{fullShare} y))
        ∗ (iprop(boundary (SparseCore.T d) ∗ (tcLoc d a ↦{fullShare} x) ∗ (tcLoc d b ↦{fullShare} f x)) -∗ Q ⟨⟩))
      ⊢ wp frame (wpE ((K (F := F)).defs D) 𝒱 (SparseCore.T d) none) Set.univ (hlo rfl (StableHlo.unary a b f ha hb) (fun _ => .ret ⟨⟩)) Q := by
  have hne : (Proc.devRef .tc a : DevRef τ sig) ≠ Proc.devRef .tc b := StableHlo.devRef_ne_of_ne hab
  have hm : (Proc.devRef .tc a : DevRef τ sig) ∉ ({Proc.devRef .tc b} : Finset (DevRef τ sig)) := fun h => hne (Finset.mem_singleton.mp h)
  let W : Valuation τ sig (Elt F) := Function.update (Function.update V₀ (Proc.devRef .tc a) x) (Proc.devRef .tc b) y
  have hWa : W (Proc.devRef .tc a) = x := (Function.update_of_ne hne _ _).trans (Function.update_self _ _ _)
  have hWb : W (Proc.devRef .tc b) = y := Function.update_self _ _ _
  have hbufs : ∀ X : Valuation τ sig (Elt F), (bigSep (StableHlo.unary a b f ha hb : HloOp τ sig (Elt F)).bufs fun r => ((SparseCore.T d).1, r) ↦{fullShare} X r)
      = (iprop((tcLoc d a ↦{fullShare} X (Proc.devRef .tc a)) ∗ (tcLoc d b ↦{fullShare} X (Proc.devRef .tc b))) : sProp 𝕄) := fun X => by
    rw [StableHlo.unary_bufs, SparseCore.bigSep_insert' hm, bigSep_singleton]
  iintro ⟨⟨Hb, Ha, Hy⟩, Hk⟩
  iapply (wp_hlo 𝒱 (SparseCore.T d) none Set.univ (op := StableHlo.unary a b f ha hb) (q := fun _ => fullShare) (F := W) (fun _ _ => rfl) rfl) $$ [Hb Ha Hy]
  · isplitl [Hb]; · iexact Hb
    rw [hbufs W, hWa, hWb]
    isplitl [Ha]; · iexact Ha
    iexact Hy
  iintro ⟨Hb, H⟩
  ihave H := (Entails.of_eq (hbufs _)) $$ H
  rw [StableHlo.unary_result_ne _ _ f ha hb W hab, StableHlo.unary_result, hWa]
  rw [wp_ret]
  imodintro
  iapply Hk
  isplitl [Hb]; · iexact Hb
  iexact H

/-- An operation that writes the array `b`. -/
theorem wp_nullary (V₀ : Valuation τ sig (Elt F)) (d : Dev nD) (b : Ref sig .tc) (v : b.ty.Contents (Elt F)) (hb)
    (y : b.ty.Contents (Elt F)) (Q : PUnit → sProp 𝕄) :
    iprop((boundary (SparseCore.T d) ∗ (tcLoc d b ↦{fullShare} y))
        ∗ (iprop(boundary (SparseCore.T d) ∗ (tcLoc d b ↦{fullShare} v)) -∗ Q ⟨⟩))
      ⊢ wp frame (wpE ((K (F := F)).defs D) 𝒱 (SparseCore.T d) none) Set.univ (hlo rfl (StableHlo.nullary b v hb) (fun _ => .ret ⟨⟩)) Q := by
  let W : Valuation τ sig (Elt F) := Function.update V₀ (Proc.devRef .tc b) y
  have hWb : W (Proc.devRef .tc b) = y := Function.update_self _ _ _
  have hbufs : ∀ X : Valuation τ sig (Elt F), (bigSep (StableHlo.nullary b v hb : HloOp τ sig (Elt F)).bufs fun r => ((SparseCore.T d).1, r) ↦{fullShare} X r)
      = (tcLoc d b ↦{fullShare} X (Proc.devRef .tc b) : sProp 𝕄) := fun X => by
    rw [StableHlo.nullary_bufs, bigSep_singleton]
  iintro ⟨⟨Hb, Hy⟩, Hk⟩
  iapply (wp_hlo 𝒱 (SparseCore.T d) none Set.univ (op := StableHlo.nullary b v hb) (q := fun _ => fullShare) (F := W) (fun _ _ => rfl) rfl) $$ [Hb Hy]
  · isplitl [Hb]; · iexact Hb
    rw [hbufs W, hWb]
    iexact Hy
  iintro ⟨Hb, H⟩
  ihave H := (Entails.of_eq (hbufs _)) $$ H
  rw [StableHlo.nullary_result, wp_ret]
  imodintro
  iapply Hk
  isplitl [Hb]; · iexact Hb
  iexact H

/-- A reshape of the array `a` into the array `b`. -/
theorem wp_reshape (V₀ : Valuation τ sig (Elt F)) (d : Dev nD) (a b : Ref sig .tc) (hab : a ≠ b) (he : a.ty.elt = b.ty.elt)
    (hn : a.ty.shape.ShapeCasts b.ty.shape) (ha hb) (x : a.ty.Contents (Elt F)) (y : b.ty.Contents (Elt F)) (Q : PUnit → sProp 𝕄) :
    iprop((boundary (SparseCore.T d) ∗ (tcLoc d a ↦{fullShare} x) ∗ (tcLoc d b ↦{fullShare} y))
        ∗ (iprop(boundary (SparseCore.T d) ∗ (tcLoc d a ↦{fullShare} x) ∗ (tcLoc d b ↦{fullShare} fun i => he ▸ shapeCast b.ty.shape x hn i)) -∗ Q ⟨⟩))
      ⊢ wp frame (wpE ((K (F := F)).defs D) 𝒱 (SparseCore.T d) none) Set.univ (hlo rfl (StableHlo.reshape a b he hn ha hb) (fun _ => .ret ⟨⟩)) Q :=
  wp_unary V₀ d a b hab (fun g i => he ▸ shapeCast b.ty.shape g hn i) ha hb x y Q

/-! ## What the arrays end at -/

/-- The eight matrices the second TensorCore kernel is given. -/
def oneHot : S8x16x128.Idx → Elt F .f32 := fun i => FloatOps.ofBits .f32 (lit1 (S8x16x128.rowMajor i))
/-- The eight matrices the first TensorCore kernel is given (it does not read them). -/
def unread : S8x16x128.Idx → Elt F .f32 := fun i => FloatOps.ofBits .f32 (lit0 (S8x16x128.rowMajor i))

section Values
variable (idx : S4096x200.Idx → BitVec 32) (emb : S1000000x16.Idx → Elt F .f32)

/-- The table transposed, -/
def a0 : S16x1000000.Idx → Elt F .f32 := transpose S16x1000000 [1, 0] emb transposes_S1000000x16_S16x1000000_1_0
/-- in lines of eight rows, -/
def a1 : S125000x128.Idx → Elt F .f32 := lines (a0 emb)
/-- and in rows again. -/
def a2 : S1000000x16.Idx → Elt F .f32 := shapeCast S1000000x16 (a1 emb) shapeCasts_S125000x128_S1000000x16
/-- The indices in one row, -/
def a3 : S819200.Idx → BitVec 32 := shapeCast S819200 idx shapeCasts_S4096x200_S819200
/-- the rows gathered, -/
def a4 : S800x1024x16.Idx → Elt F .f32 := gath (a2 emb) (a3 idx)
/-- in lines of eight rows, -/
def a5 : S102400x128.Idx → Elt F .f32 := shapeCast S102400x128 (a4 idx emb) shapeCasts_S800x1024x16_S102400x128
/-- transposed, 128 columns to a tile, -/
def a6 : S2x51200x128.Idx → Elt F .f32 := tiles (a5 idx emb) oneHot
def a7 : S2x6400x8x128.Idx → Elt F .f32 := shapeCast S2x6400x8x128 (a6 idx emb) shapeCasts_S2x51200x128_S2x6400x8x128
def a8 : S2x8x6400x128.Idx → Elt F .f32 := transpose S2x8x6400x128 [0, 2, 1, 3] (a7 idx emb) transposes_S2x6400x8x128_S2x8x6400x128_0_2_1_3
/-- the tiles side by side, -/
def a9 : S16x819200.Idx → Elt F .f32 := shapeCast S16x819200 (a8 idx emb) shapeCasts_S2x8x6400x128_S16x819200
/-- in rows, -/
def a10 : S819200x16.Idx → Elt F .f32 := transpose S819200x16 [1, 0] (a9 idx emb) transposes_S16x819200_S819200x16_1_0
/-- and the result. -/
def a11 : S4096x200x16.Idx → Elt F .f32 := shapeCast S4096x200x16 (a10 idx emb) shapeCasts_S819200x16_S4096x200x16
end Values

/-! ## The launch -/

variable (m : (ℓ : Loc nD τ sig) → Buf (Elt F) ℓ) (ρ : Dev nD → PrngReg)

abbrev idx (d : Dev nD) : S4096x200.Idx → BitVec 32 := m (tcLoc d main_arg0)
abbrev emb (d : Dev nD) : S1000000x16.Idx → Elt F .f32 := m (tcLoc d main_arg1)

/-- The pipelines' data. -/
def dats : Dats F
  | ⟨0, _⟩, c => tableDat (fun d => a0 (emb m d)) (fun _ => unread) (fun d => m (tcLoc d main_v1)) 0 c
  | ⟨1, _⟩, c => outDat (fun d => a5 (idx m d) (emb m d)) (fun _ => oneHot) (fun d => m (tcLoc d main_v6)) 1 c

theorem runs_table : Runs (dats m) 0 0 where
  body c := table_obligation (fun d => a0 (emb m d)) (fun _ => unread) (fun d => m (tcLoc d main_v1)) 0 c
  owed _ _ := rfl
  recorded _ _ := rfl
  inv _ _ := rfl

theorem runs_out : Runs (dats m) 1 1 where
  body c := out_obligation (fun d => a5 (idx m d) (emb m d)) (fun _ => oneHot) (fun d => m (tcLoc d main_v6)) 1 c
  owed _ _ := rfl
  recorded _ _ := rfl
  inv _ _ := rfl

theorem table_arrays (d : Dev nD) (G) : ((dats m 0 d).arrays G : sProp 𝕄)
    = iprop((tcLoc d main_v0 ↦{fullShare} G 0) ∗ (tcLoc d main_cst ↦{fullShare} G 1) ∗ (tcLoc d main_v1 ↦{fullShare} G 2)) := by
  rw [Pipeline.arrays_eq cfgs (dats m) 0 d launch0.arr_whole ((dats m 0 d).share_full fun _ => rfl)]
  exact bigSep_W0 _

theorem out_arrays (d : Dev nD) (G) : ((dats m 1 d).arrays G : sProp 𝕄)
    = iprop((tcLoc d main_v5 ↦{fullShare} G 0) ∗ (tcLoc d main_cst_0 ↦{fullShare} G 1) ∗ (tcLoc d main_v6 ↦{fullShare} G 2)) := by
  rw [Pipeline.arrays_eq cfgs (dats m) 1 d launch2.arr_whole ((dats m 1 d).share_full fun _ => rfl)]
  exact bigSep_W2 _

theorem table_start (d : Dev nD) : ((dats m 0 d).arrays ((dats m 0 d).arrAt · 0) : sProp 𝕄)
    = iprop((tcLoc d main_v0 ↦{fullShare} a0 (emb m d)) ∗ (tcLoc d main_cst ↦{fullShare} unread) ∗ (tcLoc d main_v1 ↦{fullShare} m (tcLoc d main_v1))) :=
  table_arrays m d _

theorem table_end (d : Dev nD) : ((dats m 0 d).arrays ((dats m 0 d).arrAt · (cfgs 0).N) : sProp 𝕄)
    = iprop((tcLoc d main_v0 ↦{fullShare} a0 (emb m d)) ∗ (tcLoc d main_cst ↦{fullShare} unread) ∗ (tcLoc d main_v1 ↦{fullShare} a1 (emb m d))) := by
  rw [table_arrays]
  refine congrArg₂ _ ?_ (congrArg₂ _ ?_ ?_)
  · exact congrArg _ ((dats m 0 d).arrAt_in (0 : Fin 3) rfl _)
  · exact congrArg _ ((dats m 0 d).arrAt_in (1 : Fin 3) rfl _)
  · exact congrArg _ (table_final (fun d => a0 (emb m d)) (fun _ => unread) (fun d => m (tcLoc d main_v1)) 0 d)

theorem out_start (d : Dev nD) : ((dats m 1 d).arrays ((dats m 1 d).arrAt · 0) : sProp 𝕄)
    = iprop((tcLoc d main_v5 ↦{fullShare} a5 (idx m d) (emb m d)) ∗ (tcLoc d main_cst_0 ↦{fullShare} oneHot) ∗ (tcLoc d main_v6 ↦{fullShare} m (tcLoc d main_v6))) :=
  out_arrays m d _

theorem out_end (d : Dev nD) : ((dats m 1 d).arrays ((dats m 1 d).arrAt · (cfgs 1).N) : sProp 𝕄)
    = iprop((tcLoc d main_v5 ↦{fullShare} a5 (idx m d) (emb m d)) ∗ (tcLoc d main_cst_0 ↦{fullShare} oneHot) ∗ (tcLoc d main_v6 ↦{fullShare} a6 (idx m d) (emb m d))) := by
  rw [out_arrays]
  refine congrArg₂ _ ?_ (congrArg₂ _ ?_ ?_)
  · exact congrArg _ ((dats m 1 d).arrAt_in (0 : Fin 3) rfl _)
  · exact congrArg _ ((dats m 1 d).arrAt_in (1 : Fin 3) rfl _)
  · exact congrArg _ (out_final (fun d => a5 (idx m d) (emb m d)) (fun _ => oneHot) (fun d => m (tcLoc d main_v6)) 1 d)

/-- What the SparseCore call hands over and gets back. -/
abbrev PP : (K (F := F)).Pay (nD := nD) (Val := Elt F) (Name := ℕ) (U := UU) :=
  P (fun d => a2 (emb m d)) (fun d => a3 (idx m d)) (fun d => m (outLoc d))

omit [FloatOps F] in
set_option maxHeartbeats 1000000 in
/-- A TensorCore's arrays, one by one. -/
theorem unscopedBufs_eq (d : Dev nD) (W : (b : Ref sig .tc) → Buf (Elt F) ((d.tc : Thread nD τ).loc b)) :
    (unscopedBufs d W : sProp 𝕄) = iprop((tcLoc d main_arg0 ↦{fullShare} W main_arg0) ∗ (tcLoc d main_arg1 ↦{fullShare} W main_arg1)
      ∗ (tcLoc d main_cst ↦{fullShare} W main_cst) ∗ (tcLoc d main_cst_0 ↦{fullShare} W main_cst_0)
      ∗ (tcLoc d main_v0 ↦{fullShare} W main_v0) ∗ (tcLoc d main_v1 ↦{fullShare} W main_v1) ∗ (tcLoc d main_v2 ↦{fullShare} W main_v2)
      ∗ (tcLoc d main_v3 ↦{fullShare} W main_v3) ∗ (tcLoc d main_v4 ↦{fullShare} W main_v4) ∗ (tcLoc d main_v5 ↦{fullShare} W main_v5)
      ∗ (tcLoc d main_v6 ↦{fullShare} W main_v6) ∗ (tcLoc d main_v7 ↦{fullShare} W main_v7) ∗ (tcLoc d main_v8 ↦{fullShare} W main_v8)
      ∗ (tcLoc d main_v9 ↦{fullShare} W main_v9) ∗ (tcLoc d main_v10 ↦{fullShare} W main_v10) ∗ tcLoc d main_v11 ↦{fullShare} W main_v11) := by
  unfold unscopedBufs
  rw [show (Finset.univ.filter fun b : Ref sig .tc => ¬ b.isScoped) = {main_arg0, main_arg1, main_cst, main_cst_0, main_v0, main_v1, main_v2, main_v3,
    main_v4, main_v5, main_v6, main_v7, main_v8, main_v9, main_v10, main_v11} by decide]
  repeat rw [SparseCore.bigSep_insert' (by decide)]
  rw [bigSep_singleton]

/-- What a device's TensorCore ends with. -/
abbrev FIN (d : Dev nD) : sProp 𝕄 :=
  iprop((tcLoc d main_arg0 ↦{fullShare} idx m d) ∗ (tcLoc d main_arg1 ↦{fullShare} emb m d) ∗ (tcLoc d main_v11 ↦{fullShare} a11 (idx m d) (emb m d)))

/-- The two pipelines' ghost state on a device. -/
abbrev G (d : Dev nD) : sProp 𝕄 :=
  iprop((Pipeline.cellsGhost cfgs (EP (F := F)) 0 d ∗ Pipeline.toksInit cfgs (EP (F := F)) 0 d)
    ∗ (Pipeline.cellsGhost cfgs (EP (F := F)) 1 d ∗ Pipeline.toksInit cfgs (EP (F := F)) 1 d))

/-- A TensorCore kernel's call, then the rest. -/
theorem region_call [∀ e, Nonempty (Elt F e)] (d : Dev nD) (p : Fin 2) (n : ℕ) (kit : Pipeline.LaunchFacts (nD := nD) (τ := τ) cfgs p)
    (h : Runs (dats m) p n) (Q : PUnit → sProp 𝕄) :
    iprop((boundary (SparseCore.T d) ∗ (dats m p d).arrays ((dats m p d).arrAt · 0) ∗ (K (F := F)).tcSt EH d n ∗ levAts (K (F := F)).L (K (F := F)).lev
        ∗ Pipeline.cellsGhost cfgs (EP (F := F)) p d ∗ Pipeline.toksInit cfgs (EP (F := F)) p d)
        ∗ (iprop(boundary (SparseCore.T d) ∗ (dats m p d).arrays ((dats m p d).arrAt · (cfgs p).N) ∗ (K (F := F)).tcSt EH d n) -∗ Q ⟨⟩))
      ⊢ wp frame (wpE ((K (F := F)).defs D) 𝒱 (SparseCore.T d) none) Set.univ (Prog.lift (.customCall (SparseCore.inner (Pipeline.entry p)) ())) Q := by
  refine BI.Entails.trans (sep_mono_left (region_wp (dats m) p n kit h d)) ?_
  refine BI.Entails.trans (wp_frame_r _ _ _) (wp_mono _ _ _ fun _ => ?_)
  iintro ⟨H, Hk⟩
  iapply Hk
  iexact H

/-- `@main` on a TensorCore: the arguments keep their contents and the result holds `a11` of them. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  let V₀ : Valuation τ sig (Elt F) := fun b => m (d, b)
  unfold SparseCore.Cfg.tcRes SparseCore.Cfg.tcEnd
  rw [unscopedBufs_eq]
  simp only [main, wp_bind, wp_pure]
  iintro ⟨#Hctx, Hst, ⟨Hb, ⟨H0, H1, Hc, Hd, Hv0, Hv1, Hv2, Hv3, Hv4, Hv5, Hv6, Hv7, Hv8, Hv9, Hv10, Hv11⟩, Hts, -⟩, Hg0, Hg1⟩
  iapply (wp_nullary V₀ d main_cst _ _ _ _)
  isplitl [Hb Hc]
  · isplitl [Hb]; · iexact Hb
    iexact Hc
  iintro ⟨Hb, Hc⟩
  iapply (wp_nullary V₀ d main_cst_0 _ _ _ _)
  isplitl [Hb Hd]
  · isplitl [Hb]; · iexact Hb
    iexact Hd
  iintro ⟨Hb, Hd⟩
  iapply (wp_unary V₀ d main_arg1 main_v0 (by decide) _ _ _ _ _ _)
  isplitl [Hb H1 Hv0]
  · isplitl [Hb]; · iexact Hb
    isplitl [H1]; · iexact H1
    iexact Hv0
  iintro ⟨Hb, H1, Hv0⟩
  ihave #Hlev := ((K (F := F)).ctx_levAts κ) $$ Hctx
  iapply (region_call m d 0 0 launch0 (runs_table m) _)
  rw [table_start, table_end]
  isplitl [Hb Hv0 Hc Hv1 Hst Hg0]
  · isplitl [Hb]; · iexact Hb
    isplitl [Hv0 Hc Hv1]
    · isplitl [Hv0]; · iexact Hv0
      isplitl [Hc]; · iexact Hc
      iexact Hv1
    isplitl [Hst]; · iexact Hst
    isplitr; · iexact Hlev
    iexact Hg0
  iintro ⟨Hb, ⟨Hv0, Hc, Hv1⟩, Hst⟩
  iapply (wp_reshape V₀ d main_v1 main_v2 (by decide) _ _ _ _ _ _ _)
  isplitl [Hb Hv1 Hv2]
  · isplitl [Hb]; · iexact Hb
    isplitl [Hv1]; · iexact Hv1
    iexact Hv2
  iintro ⟨Hb, Hv1, Hv2⟩
  iapply (wp_reshape V₀ d main_arg0 main_v3 (by decide) _ _ _ _ _ _ _)
  isplitl [Hb H0 Hv3]
  · isplitl [Hb]; · iexact Hb
    isplitl [H0]; · iexact H0
    iexact Hv3
  iintro ⟨Hb, H0, Hv3⟩
  iapply ((K (F := F)).wp_run (D (F := F)) 𝒱 (EH := EH) (P := PP m) κ d 0)
  isplitr; · iexact Hctx
  isplitl [Hst]; · iexact Hst
  isplitl [Hv2 Hv3 Hv4]
  · rw [← call_takes]
    isplitl [Hv2]; · iexact Hv2
    isplitl [Hv3]; · iexact Hv3
    iexact Hv4
  iintro ⟨Hst, Hdn⟩
  ihave Hv4 := (Entails.of_eq (call_makes (fun d => a2 (emb m d)) (fun d => a3 (idx m d)) (fun d => m (outLoc d)) d)) $$ Hdn
  iapply (wp_reshape V₀ d main_v4 main_v5 (by decide) _ _ _ _ _ _ _)
  isplitl [Hb Hv4 Hv5]
  · isplitl [Hb]; · iexact Hb
    isplitl [Hv4]; · iexact Hv4
    iexact Hv5
  iintro ⟨Hb, Hv4, Hv5⟩
  iapply (region_call m d 1 1 launch2 (runs_out m) _)
  rw [out_start, out_end]
  isplitl [Hb Hv5 Hd Hv6 Hst Hg1]
  · isplitl [Hb]; · iexact Hb
    isplitl [Hv5 Hd Hv6]
    · isplitl [Hv5]; · iexact Hv5
      isplitl [Hd]; · iexact Hd
      iexact Hv6
    isplitl [Hst]; · iexact Hst
    isplitr; · iexact Hlev
    iexact Hg1
  iintro ⟨Hb, ⟨Hv5, Hd, Hv6⟩, Hst⟩
  iapply (wp_reshape V₀ d main_v6 main_v7 (by decide) _ _ _ _ _ _ _)
  isplitl [Hb Hv6 Hv7]
  · isplitl [Hb]; · iexact Hb
    isplitl [Hv6]; · iexact Hv6
    iexact Hv7
  iintro ⟨Hb, Hv6, Hv7⟩
  iapply (wp_unary V₀ d main_v7 main_v8 (by decide) _ _ _ _ _ _)
  isplitl [Hb Hv7 Hv8]
  · isplitl [Hb]; · iexact Hb
    isplitl [Hv7]; · iexact Hv7
    iexact Hv8
  iintro ⟨Hb, Hv7, Hv8⟩
  iapply (wp_reshape V₀ d main_v8 main_v9 (by decide) _ _ _ _ _ _ _)
  isplitl [Hb Hv8 Hv9]
  · isplitl [Hb]; · iexact Hb
    isplitl [Hv8]; · iexact Hv8
    iexact Hv9
  iintro ⟨Hb, Hv8, Hv9⟩
  iapply (wp_unary V₀ d main_v9 main_v10 (by decide) _ _ _ _ _ _)
  isplitl [Hb Hv9 Hv10]
  · isplitl [Hb]; · iexact Hb
    isplitl [Hv9]; · iexact Hv9
    iexact Hv10
  iintro ⟨Hb, Hv9, Hv10⟩
  iapply (wp_reshape V₀ d main_v10 main_v11 (by decide) _ _ _ _ _ _ _)
  isplitl [Hb Hv10 Hv11]
  · isplitl [Hb]; · iexact Hb
    isplitl [Hv10]; · iexact Hv10
    iexact Hv11
  iintro ⟨Hb, Hv10, Hv11⟩
  imodintro
  isplitl [Hst]; · iexact Hst
  isplitr [Hb Hts]
  · isplitl [H0]; · iexact H0
    isplitl [H1]; · iexact H1
    iexact Hv11
  isplitl [Hb] <;> iassumption

/-! ## The launch's ghost state -/

def u₀ : UU := (initOf (K (F := F)).hsCells (K (F := F)).hsToks,
  (initOf (Pipeline.cells cfgs cellOf_inj) (Pipeline.launchToks cfgs cellOf_inj), (1 : Counters)))

omit [FloatOps F] in
theorem over_two (Φ : Fin 2 → sProp 𝕄) : (bigSep Finset.univ fun p : Fin 2 => Φ p) = iprop(Φ 0 ∗ Φ 1) := by
  rw [show (Finset.univ : Finset (Fin 2)) = {0, 1} by decide, SparseCore.bigSep_insert' (by decide), bigSep_singleton]

omit [FloatOps F] in
/-- The two pipelines' ghost state by kind, then by device. -/
theorem regroup : iprop((bigSep Finset.univ fun d : Dev nD => bigSep Finset.univ fun p : Fin 2 => Pipeline.cellsGhost cfgs (EP (F := F)) p d)
      ∗ (bigSep Finset.univ fun d : Dev nD => bigSep Finset.univ fun p : Fin 2 => Pipeline.toksInit cfgs (EP (F := F)) p d))
    ⊢ (bigSep Finset.univ fun d : Dev nD => G d : sProp 𝕄) := by
  rw [← bigSep_sep']
  refine bigSep_mono fun d _ => ?_
  rw [over_two, over_two]
  change (_ : sProp 𝕄) ⊢ (_ : sProp 𝕄)
  iintro ⟨⟨Hc0, Hc1⟩, Ht0, Ht1⟩
  isplitl [Hc0 Ht0]
  · isplitl [Hc0] <;> iassumption
  isplitl [Hc1] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HP⟩
  ihave H := (own_pair_emb (embR (A := UH)) (initOf (Pipeline.cells cfgs cellOf_inj) (Pipeline.launchToks cfgs cellOf_inj)) (1 : Counters)) $$ HP
  icases H with ⟨HP, -⟩
  ihave HP := (show (BI.own (((Emb.inl : Emb UP (UP × Counters)).trans embR) (initOf (Pipeline.cells cfgs cellOf_inj) (Pipeline.launchToks cfgs cellOf_inj))) : sProp 𝕄)
    ⊢ BI.own (EP (initOf (Pipeline.cells cfgs cellOf_inj) (Pipeline.launchToks cfgs cellOf_inj))) from Entails.of_eq rfl) $$ HP
  imod (Pipeline.fund_ghost cfgs EP cellOf_inj) $$ HP with ⟨Hg, Ht⟩
  imodintro
  isplitl [HH]; · iexact HH
  isplitl [Hg Ht]
  · iapply (regroup (F := F))
    isplitl [Hg]; · iexact Hg
    iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## The program's run -/

def fq (d : Dev nD) (s' : Phys nD τ sig (Elt F)) : Prop :=
  s'.mem.mem (tcLoc d main_arg0) = idx m d ∧ s'.mem.mem (tcLoc d main_arg1) = emb m d ∧ s'.mem.mem (tcLoc d main_v11) = a11 (idx m d) (emb m d)

/-- An array held whole is the memory's. -/
theorem agree (s' : Phys nD τ sig (Elt F)) (ℓ : Loc nD τ sig) (f : Buf (Elt F) ℓ) : iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2⟩, HSI⟩
  ihave H := (agree s' (tcLoc d main_arg0) (idx m d)) $$ [HSI H0]
  · isplitl [HSI] <;> iassumption
  icases H with ⟨%h0, HSI⟩
  ihave H := (agree s' (tcLoc d main_arg1) (emb m d)) $$ [HSI H1]
  · isplitl [HSI] <;> iassumption
  icases H with ⟨%h1, HSI⟩
  ihave H := (agree s' (tcLoc d main_v11) (a11 (idx m d) (emb m d))) $$ [HSI H2]
  · isplitl [HSI] <;> iassumption
  icases H with ⟨%h2, -⟩
  ipureintro
  exact ⟨h0, h1, h2⟩

def QC : PUnit × MemSt nD τ sig (Elt F) → Prop := fun r =>
  (∀ c : Dev nD, r.2.mem (tcLoc c main_arg0) = idx m c ∧ r.2.mem (tcLoc c main_arg1) = emb m c ∧ r.2.mem (tcLoc c main_v11) = a11 (idx m c) (emb m c))
    ∧ r.2.sem = fun _ => 0

/-- From any launch whose indices are rows of the table the program runs, its arguments keep their contents and its
    result is `a11` of them. -/
theorem run_main [∀ e, Nonempty (Elt F e)] (hr : ∀ d, InRange (F := F) (dd := d) (a3 (idx m d))) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts hr)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m) (fun _ h hz => ⟨h, hz⟩)

end Cert.Proof.K

end
-- ==== Proof.Frames.lean ====
/-
  What the precondition says of the indices, and the three programs' frames.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_rows_in_range
public import Idealize.ShloMosaic.Lib.ReduceAll

@[expose] public section

set_option maxRecDepth 16384

noncomputable section

namespace Cert.Proof.K

open Cert.KernelIdeal Cert.KernelIdeal.Gen

open Idealize.ShloMosaic Idealize.ShloMosaic.TcCoe Idealize.SL.Sem

variable {F : FTy → Type} [FloatOps F]

/-- An index that passes the precondition's two comparisons is below the table's height. -/
theorem below_of_bits (v : BitVec 32) (e : IntOp.andi (IntOp.cmpi .sge v 0#32) (IntOp.cmpi .slt v 1000000#32) = 1#1) : v.toNat < 1000000 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- Under the precondition every index is a row of the table. -/
theorem rows_of_pre (x : S4096x200.Idx → BitVec 32) (e : S1000000x16.Idx → Elt F .f32)
    (h : Cert.Pre_rows_in_range.fn (F := F) x e = fun _ => 1#1) (i : S4096x200.Idx) : (x i).toNat < 1000000 := by
  have h0 := congrFun h (fun a => a.elim0)
  have : Subsingleton (Cert.Pre_rows_in_range.S_).Idx := ⟨fun a b => funext fun k => k.elim0⟩
  exact below_of_bits _ (Host.reduce_andi_all _ _ _ _ _ h0 i)

variable (m : (ℓ : Loc nD τ sig) → Buf (Elt F) ℓ)

theorem inRange_of_rows (h : ∀ d i, (idx m d i).toNat < 1000000) (d : Dev nD) : InRange (F := F) (dd := d) (a3 (idx m d)) :=
  fun _ => h d _

/-- The program leaves its arguments and its counters as it found them. -/
theorem frame_run [∀ e, Nonempty (Elt F e)] (ρ : Dev nD → PrngReg) (h : ∀ d, Cert.Pre_rows_in_range.fn (F := F) (idx m d) (emb m d) = fun _ => 1#1) :
    θ_run (defs (F := F)) (threads (F := F)) ⟨m, fun _ => 0, ρ⟩ (fun r => (∀ c : Dev nD,
      r.2.mem (tcLoc c main_arg0) = m (tcLoc c main_arg0) ∧ r.2.mem (tcLoc c main_arg1) = m (tcLoc c main_arg1)) ∧ r.2.sem = fun _ => 0) :=
  (θ_run defs _ _).mono (fun _ r => ⟨fun c => ⟨(r.1 c).1, (r.1 c).2.1⟩, r.2⟩)
    (run_main (F := F) m ρ (inRange_of_rows _ fun d => rows_of_pre _ _ (h d)))

/-- The program and the program to be read over the reals have the same bodies, -/
theorem bodies_eq : Cert.Kernel.defs₀ (F := Bits) = Cert.KernelIdeal.defs₀ (F := Bits) := by
  funext p ℓ a
  match p, ℓ, a with
  | .tc, ⟨0, _⟩, (t, s) => rfl
  | .tc, ⟨1, _⟩, _ => rfl
  | .tc, ⟨2, _⟩, (t, s) => rfl
  | .scScalar _, ⟨0, _⟩, _ => rfl
  | .scScalar _, ⟨1, _⟩, _ => rfl
  | .scScalar _, ⟨2, _⟩, _ => rfl
  | .scVector _ _, ⟨0, _⟩, _ => rfl
  | .scVector _ _, ⟨1, _⟩, _ => rfl
  | .scVector _ _, ⟨2, _⟩, _ => rfl

/-- and so the same body table. -/
theorem defs_eq : Cert.Kernel.defs (F := Bits) = Cert.KernelIdeal.defs (F := Bits) :=
  congrArg (fun D₀ => (sc (F := Bits)).defs (Pipeline.defs pcfgs D₀)) bodies_eq

theorem frame_kernel : Cert.quiescent_Kernel := by
  intro m ρ h
  rw [defs_eq]
  exact frame_run (F := Bits) m ρ h

theorem frame_ideal : Cert.quiescent_KernelIdeal := fun m ρ h => frame_run (F := Ideal) m ρ h

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_rows_in_range := fun m ρ _ => frame_reference m ρ trivial

end Cert.Proof.K

end
-- ==== Proof.OneHot.lean ====
/-
  The eight matrices the second TensorCore kernel is given: matrix `b` takes row `a` to column `8 * a + b`.
-/
module

public import proofs.«01_k».proof.Proof.Main
public import Idealize.ShloMosaic.PureOps.Ideal
public import Idealize.ShloMosaic.Lib.IdealHost

@[expose] public section

set_option maxRecDepth 16384

noncomputable section

namespace Cert.Proof.K

open Cert.KernelIdeal Cert.KernelIdeal.Gen

open Idealize.ShloMosaic Idealize.ShloMosaic.TcCoe

/-- The word of the matrix numbered `b` at row `a` and column `l`. -/
theorem word_oneHot : ∀ (b : Fin 8) (a : Fin 16) (l : Fin 128),
    lit1t (2048 * b.val + 128 * a.val + l.val) = if l.val = 8 * a.val + b.val then 0x3f800000#32 else 0x00000000#32 := by
  decide +kernel

/-- Over the reals it is one or zero. -/
theorem oneHot_apply (b : Fin 8) (a : Fin 16) (l : Fin 128) :
    oneHot (F := Ideal) (ix3 (n0 := 8) (n1 := 16) (n2 := 128) b a l : S8x16x128.Idx) = if l.val = 8 * a.val + b.val then (1 : EReal) else 0 := by
  have hw : lit1 (S8x16x128.rowMajor (ix3 (n0 := 8) (n1 := 16) (n2 := 128) b a l : S8x16x128.Idx))
      = if l.val = 8 * a.val + b.val then 0x3f800000#32 else 0x00000000#32 := by
    refine Eq.trans ?_ (word_oneHot b a l)
    show lit1t (S8x16x128.rowMajor (ix3 (n0 := 8) (n1 := 16) (n2 := 128) b a l : S8x16x128.Idx)).val = _
    congr 1
    refine (Shape.rowMajor_val_three _).trans ?_
    show (b.val * 16 + a.val) * 128 + l.val = _
    omega
  unfold oneHot
  rw [hw]
  split
  · exact Ideal.ofBits_one_f32
  · exact Ideal.ofBits_zero_f32

end Cert.Proof.K

end
-- ==== Proof.Value.lean ====
/-
  What the program computes over the reals: the result's row at `[a, b]` is the table's row number `idx[a, b]`.
-/
module

public import proofs.«01_k».proof.Proof.OneHot
public import Idealize.ShloMosaic.Lib.Pointwise

@[expose] public section

set_option maxRecDepth 16384

noncomputable section

namespace Cert.Proof.K

open Cert.KernelIdeal Cert.KernelIdeal.Gen

open Idealize.ShloMosaic Idealize.ShloMosaic.TcCoe

/-- Equal entries from equal coordinates. -/
theorem entry_congr {m n : ℕ} {A : Type} (x : (⟨2, ![m, n]⟩ : Shape).Idx → A) {a a' : Fin m} {b b' : Fin n} (ha : a.val = a'.val) (hb : b.val = b'.val) :
    x (ix2 a b) = x (ix2 a' b') := by
  rw [Fin.ext ha, Fin.ext hb]

/-! ## One chunk of the second TensorCore kernel -/

/-- A product with column `l` of the matrix numbered `b` keeps at most one term. -/
theorem sum_oneHot (f : Fin 16 → EReal) (b : Fin 8) (l : Fin 128) :
    (∑ a : Fin 16, f a * (if l.val = 8 * a.val + b.val then (1 : EReal) else 0)) = if l.val % 8 = b.val then f ⟨l.val / 8, by omega⟩ else 0 := by
  have hb := b.isLt
  have hl := l.isLt
  split
  · next h =>
    refine (Finset.sum_eq_single (⟨l.val / 8, by omega⟩ : Fin 16) (fun a _ ha => ?_) (fun h => absurd (Finset.mem_univ _) h)).trans ?_
    · rw [if_neg (fun e => ha (Fin.ext (by show a.val = l.val / 8; omega))), mul_zero]
    · rw [if_pos (by show l.val = 8 * (l.val / 8) + b.val; omega), mul_one]
  · next h =>
    refine Finset.sum_eq_zero fun a _ => ?_
    rw [if_neg (by omega), mul_zero]

/-- What the chunk holds of its sixteen lines: line `l / 8`'s lane `16 * (l % 8) + (8 * p + q)`. -/
theorem chunk_apply (x : Vec Ideal S16x128 .f32) (p : Fin 2) (q : Fin 8) (l : Fin 128) :
    chunk x (mat (oneHot (F := Ideal))) (ix3 (n0 := 2) (n1 := 8) (n2 := 128) p q l : S2x8x128.Idx)
      = x (ix2 (n0 := 16) (n1 := 128) ⟨l.val / 8, by omega⟩ ⟨16 * (l.val % 8) + (8 * p.val + q.val), by omega⟩ : S16x128.Idx) := by
  have hm : ∀ (b : Fin 8) (a : Fin 16), mat (oneHot (F := Ideal)) b (ix3 (n0 := 1) (n1 := 16) (n2 := 128) 0 a l : S1x16x128.Idx)
      = if l.val = 8 * a.val + b.val then (1 : EReal) else 0 := fun b a => oneHot_apply b a l
  pointwise [chunk, k2_pay5, k2_pay2, k2_pay3, k2_pay4]
  simp only [hm]
  simp only [sum_oneHot]
  rcases (by omega : l.val % 8 = 0 ∨ l.val % 8 = 1 ∨ l.val % 8 = 2 ∨ l.val % 8 = 3 ∨ l.val % 8 = 4 ∨ l.val % 8 = 5 ∨ l.val % 8 = 6 ∨ l.val % 8 = 7)
    with h | h | h | h | h | h | h | h
  all_goals
    simp [h]
    exact entry_congr x rfl (by show _ = _; simp only []; omega)

/-! ## The arrays, from the first to the last -/

variable (idx : S4096x200.Idx → BitVec 32) (emb : S1000000x16.Idx → Elt Ideal .f32)

/-- The table is itself again after the first TensorCore kernel and the cast. -/
theorem a2_apply (v : Fin 1000000) (h : Fin 16) :
    a2 emb (ix2 (n0 := 1000000) (n1 := 16) v h : S1000000x16.Idx) = emb (ix2 (n0 := 1000000) (n1 := 16) v h : S1000000x16.Idx) := by
  pointwise [a2, a1, lines, a0]
  exact entry_congr emb (by show 8 * (v.val / 8) + (v.val % 8 * 16 + h.val) / 16 = v.val; omega) (by show (v.val % 8 * 16 + h.val) % 16 = h.val; omega)

/-- The lines gathered: eight rows of the table to a line, in the order of the indices. -/
theorem a5_apply (w : Fin 102400) (h : Fin 128) (a : Fin 4096) (b : Fin 200) (k : Fin 16) (hab : 200 * a.val + b.val = 8 * w.val + h.val / 16)
    (hk : k.val = h.val % 16) (hr : (idx (ix2 (n0 := 4096) (n1 := 200) a b : S4096x200.Idx)).toNat < 1000000) :
    a5 idx emb (ix2 (n0 := 102400) (n1 := 128) w h : S102400x128.Idx)
      = emb (ix2 (n0 := 1000000) (n1 := 16) ⟨(idx (ix2 (n0 := 4096) (n1 := 200) a b : S4096x200.Idx)).toNat, hr⟩ k : S1000000x16.Idx) := by
  pointwise [a5, a4, gath, a3]
  refine (a2_apply emb _ _).trans (entry_congr emb ?_ hk.symm)
  refine (congrArg (fun z : BitVec 32 => z.toNat % 1000000) (entry_congr idx (a' := a) (b' := b) ?_ ?_)).trans (Nat.mod_eq_of_lt hr)
  · show (1024 * (w.val / 128) + (w.val % 128 * 8 + h.val / 16)) / 200 = a.val
    omega
  · show (1024 * (w.val / 128) + (w.val % 128 * 8 + h.val / 16)) % 200 = b.val
    omega

/-- The result's row at `[a, b]` is the table's row number `idx[a, b]`. -/
theorem a11_apply (a : Fin 4096) (b : Fin 200) (k : Fin 16) (hr : (idx (ix2 (n0 := 4096) (n1 := 200) a b : S4096x200.Idx)).toNat < 1000000) :
    a11 idx emb (ix3 (n0 := 4096) (n1 := 200) (n2 := 16) a b k : S4096x200x16.Idx)
      = emb (ix2 (n0 := 1000000) (n1 := 16) ⟨(idx (ix2 (n0 := 4096) (n1 := 200) a b : S4096x200.Idx)).toNat, hr⟩ k : S1000000x16.Idx) := by
  pointwise [a11, a10, a9, a8, a7]
  refine (congrArg (fun p : Fin 8 => chunk _ _ (ix3 (n0 := 2) (n1 := 8) (n2 := 128) _ p _ : S2x8x128.Idx)) (Fin.ext ?_)).trans
    ((chunk_apply _ ⟨k.val / 8, by omega⟩ ⟨k.val % 8, by omega⟩ ⟨(a.val * 200 + b.val) % 128, by omega⟩).trans ?_)
  · show ((a.val * 200 + b.val) / 128 * 8 + k.val % 8) % 8 = k.val % 8
    omega
  · refine a5_apply idx emb _ _ a b k ?_ ?_ hr
    · show 200 * a.val + b.val = 8 * (16 * (((a.val * 200 + b.val) / 128 * 8 + k.val % 8) / 8) + (a.val * 200 + b.val) % 128 / 8)
        + (16 * ((a.val * 200 + b.val) % 128 % 8) + (8 * (k.val / 8) + k.val % 8)) / 16
      omega
    · show k.val = (16 * ((a.val * 200 + b.val) % 128 % 8) + (8 * (k.val / 8) + k.val % 8)) % 16
      omega

end Cert.Proof.K

end
-- ==== Proof.Algebraic.lean ====
/-
  The reference's value, and the claim that over the reals the kernel's result is the reference's.
-/
module

public import proofs.«01_k».proof.Proof.Value
public import proofs.«01_k».proof.Proof.Frames
public import Idealize.ShloMosaic.Lib.WordCmp

@[expose] public section

set_option maxRecDepth 16384

noncomputable section

namespace Cert.Proof.K

open Cert.ReferenceIdeal Cert.ReferenceIdeal.Gen

open Idealize.ShloMosaic Idealize.ShloMosaic.TcCoe Idealize.SL.Sem

/-! ## The reference's value -/

variable (idx : S4096x200.Idx → BitVec 32) (emb : S1000000x16.Idx → Elt Ideal .f32)

/-- The reference's gather: the row whose number is read at `[a, b]`, kept within the table. -/
theorem gather_apply (s : IVec S4096x200x1 32) (a : Fin 4096) (b : Fin 200) (k : Fin 16) (n : ℕ) (hn : n < 1000000)
    (h : (s (ix3 (n0 := 4096) (n1 := 200) (n2 := 1) a b 0 : S4096x200x1.Idx)).toInt = n) :
    Host.gather gather_S1000000x16_S4096x200x1_S4096x200x16_2_0_n_n_0_2_116 emb s (ix3 (n0 := 4096) (n1 := 200) (n2 := 16) a b k : S4096x200x16.Idx)
      = emb (ix2 (n0 := 1000000) (n1 := 16) ⟨n, hn⟩ k : S1000000x16.Idx) := by
  let D := gather_S1000000x16_S4096x200x1_S4096x200x16_2_0_n_n_0_2_116
  let y : S4096x200x16.Idx := ix3 (n0 := 4096) (n1 := 200) (n2 := 16) a b k
  unfold Host.gather
  refine congrArg emb (funext fun c => Fin.ext ?_)
  match c with
  | ⟨0, _⟩ =>
    show D.start y s 0 + D.batchCoord y 0 + D.offCoord y 0 = n
    rw [GatherDims.batchCoord_eq_zero D y 0 List.not_mem_nil,
      GatherDims.offCoord_eq_zero D y 0 (fun h => ((GatherDims.mem_sKept D 0).mp h).1 (List.mem_singleton.mpr rfl))]
    unfold GatherDims.start
    have hm : (0 : Fin 2) ∈ D.startIndexMap := List.mem_singleton.mpr rfl
    have hsi : D.siIdx y ⟨List.idxOf (0 : Fin 2) D.startIndexMap, List.idxOf_lt_length_iff.2 hm⟩
        = (ix3 (n0 := 4096) (n1 := 200) (n2 := 1) a b 0 : S4096x200x1.Idx) := by
      funext e
      refine Fin.ext ?_
      match e with
      | ⟨0, _⟩ => rfl
      | ⟨1, _⟩ => rfl
      | ⟨2, _⟩ => rfl
    rw [dif_pos hm, hsi, h]
    show min n (1000000 - 1) + 0 + 0 = n
    omega
  | ⟨1, _⟩ =>
    show D.start y s 1 + D.batchCoord y 1 + D.offCoord y 1 = k.val
    have h1 : (1 : Fin 2) ∉ ([0] : List (Fin 2)) := by decide
    rw [GatherDims.batchCoord_eq_zero D y 1 List.not_mem_nil]
    unfold GatherDims.start GatherDims.offCoord
    rw [dif_neg (show (1 : Fin 2) ∉ D.startIndexMap from h1), dif_pos ((GatherDims.mem_sKept D 1).mpr ⟨h1, List.not_mem_nil⟩)]
    refine (congrArg (· + _) (Nat.zero_add 0)).trans ((Nat.zero_add _).trans ?_)
    rfl

/-- The indices as the reference reads them, negative ones counted from the table's end. -/
def wrapped : IVec S4096x200x1 32 :=
  broadcastInDim S4096x200x1 ![0, 1] bcast_S4096x200_S4096x200x1_0_1 (select (cmpi .slt idx (broadcastInDim S4096x200 ![] bcast_S_S4096x200 (constantI S_ 32 0#32)))
    (addi idx (broadcastInDim S4096x200 ![] bcast_S_S4096x200 (constantI S_ 32 1000000#32))) idx)

/-- Where they lie within the table, by two comparisons, -/
def within : IVec S4096x200x1 1 :=
  andi (cmpi .sge (wrapped idx) (broadcastInDim S4096x200x1 ![] bcast_S_S4096x200x1 (constantI S_ 32 0#32)))
      (cmpi .sle (wrapped idx) (broadcastInDim S4096x200x1 ![0, 1, 2] bcast_S1x1x1_S4096x200x1_0_1_2
        (broadcastInDim S1x1x1 ![2] bcast_S1_S1x1x1_2 (constantI S1 32 999999#32))))

/-- and by each entry's. -/
def mask : IVec S4096x200 1 := Host.reduce IntOp.andi (within idx) (constantI S_ 1 1#1) reducesTo_S4096x200x1_S4096x200_d2 h_S_

/-- The reference's result. -/
def taken : S4096x200x16.Idx → Elt Ideal .f32 :=
  select (broadcastInDim S4096x200x16 ![0, 1] bcast_S4096x200_S4096x200x16_0_1 (mask idx))
    (Host.gather gather_S1000000x16_S4096x200x1_S4096x200x16_2_0_n_n_0_2_116 emb (wrapped idx))
    (broadcastInDim S4096x200x16 ![] bcast_S_S4096x200x16 (constant (F := Ideal) S_ .f32 0x7FC00000#32))

/-- A word below the table's height is the same number read with a sign. -/
theorem toInt_of_row (v : BitVec 32) (h : v.toNat < 1000000) : v.toInt = v.toNat := by
  rw [BitVec.toInt_eq_toNat_cond]
  omega

/-- Nothing wraps when every index is a row. -/
theorem wrapped_apply (a : Fin 4096) (b : Fin 200) (z : Fin 1) (hr : (idx (ix2 (n0 := 4096) (n1 := 200) a b : S4096x200.Idx)).toNat < 1000000) :
    wrapped idx (ix3 (n0 := 4096) (n1 := 200) (n2 := 1) a b z : S4096x200x1.Idx) = idx (ix2 (n0 := 4096) (n1 := 200) a b : S4096x200.Idx) := by
  pointwise [wrapped]
  have hi := toInt_of_row _ hr
  rw [WordCmp.cmpi_slt_eq, hi, decide_eq_false (by show ¬ _ < (0 : ℤ); omega)]
  rfl

/-- Both comparisons hold everywhere. -/
theorem within_apply (hr : ∀ i, (idx i).toNat < 1000000) (i : S4096x200x1.Idx) :
    within idx i = 1#1 := by
  have hw : ∃ j, wrapped idx i = idx j := by
    refine ⟨ix2 (n0 := 4096) (n1 := 200) (i 0) (i 1), ?_⟩
    refine Eq.trans (congrArg (wrapped idx) (funext fun c => ?_)) (wrapped_apply idx (i 0) (i 1) (i 2) (hr _))
    fin_cases c <;> rfl
  obtain ⟨j, hj⟩ := hw
  have hv := hr j
  have hi := toInt_of_row _ hv
  show IntOp.andi (IntOp.cmpi .sge (wrapped idx i) 0#32) (IntOp.cmpi .sle (wrapped idx i) 999999#32) = 1#1
  rw [hj, WordCmp.cmpi_sge_eq, WordCmp.cmpi_sle_eq, hi, show (0#32).toInt = 0 from rfl, show (999999#32).toInt = 999999 from rfl, decide_eq_true (by omega), decide_eq_true (by omega)]
  rfl

theorem mask_apply (hr : ∀ i, (idx i).toNat < 1000000) (j : S4096x200.Idx) : mask idx j = 1#1 :=
  Host.reduce_andi_one (within idx) (constantI S_ 1 1#1) reducesTo_S4096x200x1_S4096x200_d2 h_S_ j rfl (within_apply idx hr)

/-- A selection where the mask is set. -/
theorem select_of_one {s : Shape} {A : Type} (c : IVec s 1) (x y : s.Idx → A) (i : s.Idx) (h : c i = 1#1) : select c x y i = x i := by
  show Scalar.select (c i) (x i) (y i) = x i
  rw [h]
  rfl

/-- The reference's row at `[a, b]` is the table's row number `idx[a, b]`. -/
theorem taken_apply (hr : ∀ i, (idx i).toNat < 1000000) (a : Fin 4096) (b : Fin 200) (k : Fin 16) :
    taken idx emb (ix3 (n0 := 4096) (n1 := 200) (n2 := 16) a b k : S4096x200x16.Idx)
      = emb (ix2 (n0 := 1000000) (n1 := 16) ⟨(idx (ix2 (n0 := 4096) (n1 := 200) a b : S4096x200.Idx)).toNat, hr _⟩ k : S1000000x16.Idx) := by
  have hm : broadcastInDim S4096x200x16 ![0, 1] bcast_S4096x200_S4096x200x16_0_1 (mask idx) (ix3 (n0 := 4096) (n1 := 200) (n2 := 16) a b k : S4096x200x16.Idx) = 1#1 :=
    mask_apply idx hr _
  refine (select_of_one _ _ _ _ hm).trans ?_
  refine gather_apply emb _ a b k _ (hr _) ?_
  rw [wrapped_apply idx a b 0 (hr _)]
  exact toInt_of_row _ (hr _)

/-- The kernel's result is the reference's. -/
theorem result_eq (hr : ∀ i, (idx i).toNat < 1000000) : taken idx emb = a11 idx emb := by
  funext i
  have e : i = (ix3 (n0 := 4096) (n1 := 200) (n2 := 16) (i 0) (i 1) (i 2) : S4096x200x16.Idx) := by
    funext c
    fin_cases c <;> rfl
  rw [e]
  exact (taken_apply idx emb hr (i 0) (i 1) (i 2)).trans (a11_apply idx emb (i 0) (i 1) (i 2) (hr _)).symm

/-! ## The claim -/

theorem algebraic : Cert.algebraic_KernelIdeal_ReferenceIdeal := by
  intro m g m' g' hpre hargs
  refine ⟨fun c => a11 (idx m c) (Cert.Proof.K.emb m c), ?_, ?_⟩
  · refine (θ_run _ _ _).mono (fun r h c => ⟨(h.1 c).2.2, (h.1 c).1, (h.1 c).2.1⟩) (run_main (F := Ideal) m g (inRange_of_rows m fun d => rows_of_pre _ _ (hpre d)))
  · refine (θ_run _ _ _).mono (fun r h c => ⟨?_, (h c).2⟩) (Cert.ReferenceIdeal.Value.run (F := Ideal) m' g')
    refine (h c).1.trans ?_
    rw [(hargs c).1, (hargs c).2]
    exact result_eq _ _ (rows_of_pre _ _ (hpre c))

end Cert.Proof.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_rows_in_range.Gen.facts,
    K.frame_kernel, K.frame_ideal, K.frame_reference, K.frame_reference_pre, trivial, K.algebraic⟩

end Cert.Proof

end
